-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_nonnegative_finite [hPre_scores_nonnegative_finite : Cert.Pre_scores_nonnegative_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_nonnegative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_nonnegative_finite [hPre_scores_nonnegative_finite : Cert.Pre_scores_nonnegative_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_nonnegative_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_nonnegative_finite [hKernelIdeal : Cert.KernelIdeal.Facts] [hPre_scores_nonnegative_finite : Cert.Pre_scores_nonnegative_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_nonnegative_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_nonnegative_finite [hReferenceIdeal : Cert.ReferenceIdeal.Facts] [hPre_scores_nonnegative_finite : Cert.Pre_scores_nonnegative_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_nonnegative_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_nonnegative_finite [hKernelIdeal : Cert.KernelIdeal.Facts] [hReferenceIdeal : Cert.ReferenceIdeal.Facts] [hPre_scores_nonnegative_finite : Cert.Pre_scores_nonnegative_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_nonnegative_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_nonnegative_finite : Cert.Pre_scores_nonnegative_finite.Facts),
    quiescent_Kernel (hKernel := hKernel)
    ∧ quiescent_KernelIdeal (hKernelIdeal := hKernelIdeal)
    ∧ quiescent_KernelIdeal_pre_scores_nonnegative_finite (hKernelIdeal := hKernelIdeal) (hPre_scores_nonnegative_finite := hPre_scores_nonnegative_finite)
    ∧ quiescent_ReferenceIdeal (hReferenceIdeal := hReferenceIdeal)
    ∧ quiescent_ReferenceIdeal_pre_scores_nonnegative_finite (hReferenceIdeal := hReferenceIdeal) (hPre_scores_nonnegative_finite := hPre_scores_nonnegative_finite)
    ∧ preserves_Kernel_KernelIdeal
    ∧ algebraic_KernelIdeal_ReferenceIdeal_pre_scores_nonnegative_finite (hKernelIdeal := hKernelIdeal) (hReferenceIdeal := hReferenceIdeal) (hPre_scores_nonnegative_finite := hPre_scores_nonnegative_finite)
-- ==== Pre_scores_nonnegative_finite.lean ====
abbrev S1x9x48x48 : Shape := ⟨4, ![1, 9, 48, 48]⟩
abbrev S1x36x48x48 : Shape := ⟨4, ![1, 36, 48, 48]⟩
abbrev S3 : Shape := ⟨1, ![3]⟩
abbrev S_ : Shape := ⟨0, ![]⟩

class Facts : Prop where
  bcast_S_S1x9x48x48 : S_.BroadcastsInDim S1x9x48x48 (![] : Fin 0 → Fin S1x9x48x48.rank)
  reducesTo_S1x9x48x48_S_d0_1_2_3 : S1x9x48x48.ReducesTo [0, 1, 2, 3] S_
  h_S_ : 0 < S_.numel

variable [Facts]

def fn {F : FTy → Type} [FloatOps F] (main_arg0 : FVec F S1x9x48x48 .f32) (main_arg1 : FVec F S1x36x48x48 .f32) (main_arg2 : FVec F S3 .f32) : IVec S_ 1 :=
  let main_cst : FVec F S_ .f32 := constant S_ .f32 0x00000000#32
  let main_v0 : FVec F S1x9x48x48 .f32 := broadcastInDim S1x9x48x48 ![] bcast_S_S1x9x48x48 main_cst
  let main_v1 : IVec S1x9x48x48 1 := cmpf .oge main_arg0 main_v0
  let main_cst_0 : FVec F S_ .f32 := constant S_ .f32 0x7F800000#32
  let main_v2 : FVec F S1x9x48x48 .f32 := broadcastInDim S1x9x48x48 ![] bcast_S_S1x9x48x48 main_cst_0
  let main_v3 : IVec S1x9x48x48 1 := cmpf .olt main_arg0 main_v2
  let main_v4 : IVec S1x9x48x48 1 := andi main_v1 main_v3
  let main_c : IVec S_ 1 := constantI S_ 1 1#1
  let main_v5 : IVec S_ 1 := (fun x v => Host.reduce IntOp.andi x v reducesTo_S1x9x48x48_S_d0_1_2_3 h_S_) main_v4 main_c
  main_v5
-- ==== Kernel.lean ====
abbrev S1x9x48x48 : Shape := ⟨4, ![1, 9, 48, 48]⟩
abbrev S1x36x48x48 : Shape := ⟨4, ![1, 36, 48, 48]⟩
abbrev S3 : Shape := ⟨1, ![3]⟩
abbrev S162x128 : Shape := ⟨2, ![162, 128]⟩
abbrev S9x48x48x4 : Shape := ⟨4, ![9, 48, 48, 4]⟩
abbrev S9x48x48x1 : Shape := ⟨4, ![9, 48, 48, 1]⟩
abbrev S9x48x48 : Shape := ⟨3, ![9, 48, 48]⟩
abbrev S20736 : Shape := ⟨1, ![20736]⟩
abbrev S_ : Shape := ⟨0, ![]⟩
abbrev S162x128x1 : Shape := ⟨3, ![162, 128, 1]⟩
abbrev S162x128x9 : Shape := ⟨3, ![162, 128, 9]⟩
abbrev S20736x9 : Shape := ⟨2, ![20736, 9]⟩
abbrev S1000 : Shape := ⟨1, ![1000]⟩
abbrev S1000x1 : Shape := ⟨2, ![1000, 1]⟩
abbrev S1000x9 : Shape := ⟨2, ![1000, 9]⟩
abbrev S24x9 : Shape := ⟨2, ![24, 9]⟩
abbrev S1 : Shape := ⟨1, ![1]⟩
abbrev S24 : Shape := ⟨1, ![24]⟩
abbrev S1024x9 : Shape := ⟨2, ![1024, 9]⟩
abbrev S1024x1 : Shape := ⟨2, ![1024, 1]⟩
abbrev S1024 : Shape := ⟨1, ![1024]⟩
abbrev S1024x8 : Shape := ⟨2, ![1024, 8]⟩
abbrev S8x1024 : Shape := ⟨2, ![8, 1024]⟩
abbrev S1024x2 : Shape := ⟨2, ![1024, 2]⟩
abbrev S1024x4 : Shape := ⟨2, ![1024, 4]⟩
abbrev S304x4 : Shape := ⟨2, ![304, 4]⟩
abbrev S1024x1024 : Shape := ⟨2, ![1024, 1024]⟩
abbrev S1x1024 : Shape := ⟨2, ![1, 1024]⟩
abbrev S128x8 : Shape := ⟨2, ![128, 8]⟩
abbrev S128x1 : Shape := ⟨2, ![128, 1]⟩
abbrev S128x1024 : Shape := ⟨2, ![128, 1024]⟩
abbrev S1x1x1024 : Shape := ⟨3, ![1, 1, 1024]⟩
abbrev S1x1x1 : Shape := ⟨3, ![1, 1, 1]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S304x1024 : Shape := ⟨2, ![304, 1024]⟩
abbrev S300x4 : Shape := ⟨2, ![300, 4]⟩
abbrev S1x300x4 : Shape := ⟨3, ![1, 300, 4]⟩

abbrev nBuf : Space → Nat
  | .hbm => 97
  | .vmem => 18
  | .smem => 0
  | _ => 0

abbrev bufTy : (tb : Table) → Fin (tcTables nBuf tb) → BufTy
  | .hbm, ⟨0, _⟩ => ⟨S1x9x48x48, .f32⟩
  | .hbm, ⟨1, _⟩ => ⟨S1x36x48x48, .f32⟩
  | .hbm, ⟨2, _⟩ => ⟨S3, .f32⟩
  | .hbm, ⟨3, _⟩ => ⟨S162x128, .f32⟩
  | .hbm, ⟨4, _⟩ => ⟨S9x48x48x4, .f32⟩
  | .hbm, ⟨5, _⟩ => ⟨S9x48x48x1, .f32⟩
  | .hbm, ⟨6, _⟩ => ⟨S9x48x48, .f32⟩
  | .hbm, ⟨7, _⟩ => ⟨S162x128, .f32⟩
  | .hbm, ⟨8, _⟩ => ⟨S9x48x48x1, .f32⟩
  | .hbm, ⟨9, _⟩ => ⟨S9x48x48, .f32⟩
  | .hbm, ⟨10, _⟩ => ⟨S162x128, .f32⟩
  | .hbm, ⟨11, _⟩ => ⟨S9x48x48x1, .f32⟩
  | .hbm, ⟨12, _⟩ => ⟨S9x48x48, .f32⟩
  | .hbm, ⟨13, _⟩ => ⟨S162x128, .f32⟩
  | .hbm, ⟨14, _⟩ => ⟨S9x48x48x1, .f32⟩
  | .hbm, ⟨15, _⟩ => ⟨S9x48x48, .f32⟩
  | .hbm, ⟨16, _⟩ => ⟨S162x128, .f32⟩
  | .hbm, ⟨17, _⟩ => ⟨S162x128, .f32⟩
  | .hbm, ⟨18, _⟩ => ⟨S162x128, .f32⟩
  | .hbm, ⟨19, _⟩ => ⟨S162x128, .f32⟩
  | .hbm, ⟨20, _⟩ => ⟨S162x128, .f32⟩
  | .hbm, ⟨21, _⟩ => ⟨S162x128, .f32⟩
  | .hbm, ⟨22, _⟩ => ⟨S162x128, .f32⟩
  | .hbm, ⟨23, _⟩ => ⟨S162x128, .f32⟩
  | .hbm, ⟨24, _⟩ => ⟨S162x128, .f32⟩
  | .hbm, ⟨25, _⟩ => ⟨S20736, .f32⟩
  | .hbm, ⟨26, _⟩ => ⟨S162x128, .f32⟩
  | .hbm, ⟨27, _⟩ => ⟨S_, .f32⟩
  | .hbm, ⟨28, _⟩ => ⟨S162x128, .f32⟩
  | .hbm, ⟨29, _⟩ => ⟨S162x128, .f32⟩
  | .hbm, ⟨30, _⟩ => ⟨S162x128x1, .f32⟩
  | .hbm, ⟨31, _⟩ => ⟨S162x128x1, .f32⟩
  | .hbm, ⟨32, _⟩ => ⟨S162x128x1, .f32⟩
  | .hbm, ⟨33, _⟩ => ⟨S162x128x1, .f32⟩
  | .hbm, ⟨34, _⟩ => ⟨S162x128x1, .f32⟩
  | .hbm, ⟨35, _⟩ => ⟨S162x128x1, .f32⟩
  | .hbm, ⟨36, _⟩ => ⟨S162x128x1, .f32⟩
  | .hbm, ⟨37, _⟩ => ⟨S162x128x1, .f32⟩
  | .hbm, ⟨38, _⟩ => ⟨S162x128x1, .f32⟩
  | .hbm, ⟨39, _⟩ => ⟨S162x128x9, .f32⟩
  | .hbm, ⟨40, _⟩ => ⟨S20736x9, .f32⟩
  | .hbm, ⟨41, _⟩ => ⟨S20736, .f32⟩
  | .hbm, ⟨42, _⟩ => ⟨S1000, .f32⟩
  | .hbm, ⟨43, _⟩ => ⟨S1000, .i32⟩
  | .hbm, ⟨44, _⟩ => ⟨S1000, .i32⟩
  | .hbm, ⟨45, _⟩ => ⟨S_, .i32⟩
  | .hbm, ⟨46, _⟩ => ⟨S1000, .i32⟩
  | .hbm, ⟨47, _⟩ => ⟨S1000, .i1⟩
  | .hbm, ⟨48, _⟩ => ⟨S_, .i32⟩
  | .hbm, ⟨49, _⟩ => ⟨S1000, .i32⟩
  | .hbm, ⟨50, _⟩ => ⟨S1000, .i32⟩
  | .hbm, ⟨51, _⟩ => ⟨S1000, .i32⟩
  | .hbm, ⟨52, _⟩ => ⟨S1000x1, .i32⟩
  | .hbm, ⟨53, _⟩ => ⟨S1000x9, .f32⟩
  | .hbm, ⟨54, _⟩ => ⟨S_, .f32⟩
  | .hbm, ⟨55, _⟩ => ⟨S24x9, .f32⟩
  | .hbm, ⟨56, _⟩ => ⟨S_, .i32⟩
  | .hbm, ⟨57, _⟩ => ⟨S1, .i32⟩
  | .hbm, ⟨58, _⟩ => ⟨S_, .f32⟩
  | .hbm, ⟨59, _⟩ => ⟨S24, .f32⟩
  | .hbm, ⟨60, _⟩ => ⟨S24x9, .f32⟩
  | .hbm, ⟨61, _⟩ => ⟨S_, .i32⟩
  | .hbm, ⟨62, _⟩ => ⟨S1, .i32⟩
  | .hbm, ⟨63, _⟩ => ⟨S_, .f32⟩
  | .hbm, ⟨64, _⟩ => ⟨S24, .f32⟩
  | .hbm, ⟨65, _⟩ => ⟨S24x9, .f32⟩
  | .hbm, ⟨66, _⟩ => ⟨S1024x9, .f32⟩
  | .hbm, ⟨67, _⟩ => ⟨S1024x1, .f32⟩
  | .hbm, ⟨68, _⟩ => ⟨S1024, .f32⟩
  | .hbm, ⟨69, _⟩ => ⟨S1024, .f32⟩
  | .hbm, ⟨70, _⟩ => ⟨S1024x1, .f32⟩
  | .hbm, ⟨71, _⟩ => ⟨S1024, .f32⟩
  | .hbm, ⟨72, _⟩ => ⟨S1024x1, .f32⟩
  | .hbm, ⟨73, _⟩ => ⟨S1024, .f32⟩
  | .hbm, ⟨74, _⟩ => ⟨S1024, .f32⟩
  | .hbm, ⟨75, _⟩ => ⟨S1024, .i32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .i32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i32⟩
  | .hbm, ⟨86, _⟩ => ⟨S1024, .i32⟩
  | .hbm, ⟨87, _⟩ => ⟨S1024x1, .i32⟩
  | .hbm, ⟨88, _⟩ => ⟨S1024x9, .f32⟩
  | .hbm, ⟨89, _⟩ => ⟨S1024x8, .f32⟩
  | .hbm, ⟨90, _⟩ => ⟨S8x1024, .f32⟩
  | .hbm, ⟨91, _⟩ => ⟨S1024x2, .f32⟩
  | .hbm, ⟨92, _⟩ => ⟨S1024x2, .f32⟩
  | .hbm, ⟨93, _⟩ => ⟨S1024x4, .f32⟩
  | .hbm, ⟨94, _⟩ => ⟨S304x4, .f32⟩
  | .hbm, ⟨95, _⟩ => ⟨S300x4, .f32⟩
  | .hbm, ⟨96, _⟩ => ⟨S1x300x4, .f32⟩
  | .local _ .vmem, ⟨0, _⟩ => ⟨S162x128, .f32⟩
  | .local _ .vmem, ⟨1, _⟩ => ⟨S162x128, .f32⟩
  | .local _ .vmem, ⟨2, _⟩ => ⟨S162x128, .f32⟩
  | .local _ .vmem, ⟨3, _⟩ => ⟨S162x128, .f32⟩
  | .local _ .vmem, ⟨4, _⟩ => ⟨S162x128, .f32⟩
  | .local _ .vmem, ⟨5, _⟩ => ⟨S162x128, .f32⟩
  | .local _ .vmem, ⟨6, _⟩ => ⟨S162x128, .f32⟩
  | .local _ .vmem, ⟨7, _⟩ => ⟨S162x128, .f32⟩
  | .local _ .vmem, ⟨8, _⟩ => ⟨S162x128, .f32⟩
  | .local _ .vmem, ⟨9, _⟩ => ⟨S162x128, .f32⟩
  | .local _ .vmem, ⟨10, _⟩ => ⟨S162x128, .f32⟩
  | .local _ .vmem, ⟨11, _⟩ => ⟨S162x128, .f32⟩
  | .local _ .vmem, ⟨12, _⟩ => ⟨S162x128, .f32⟩
  | .local _ .vmem, ⟨13, _⟩ => ⟨S1024x8, .f32⟩
  | .local _ .vmem, ⟨14, _⟩ => ⟨S8x1024, .f32⟩
  | .local _ .vmem, ⟨15, _⟩ => ⟨S1024x4, .f32⟩
  | .local _ .vmem, ⟨16, _⟩ => ⟨S304x4, .f32⟩
  | .local _ .vmem, ⟨17, _⟩ => ⟨S1024x1024, .f32⟩
  | _, _ => ⟨S1x9x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v14_4 : Ref sig .tc := ⟨.hbm, 21, rfl⟩
abbrev main_v14_5 : Ref sig .tc := ⟨.hbm, 22, rfl⟩
abbrev main_v14_6 : Ref sig .tc := ⟨.hbm, 23, rfl⟩
abbrev main_v14_7 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_values : Ref sig .tc := ⟨.hbm, 42, rfl⟩
abbrev main_indices : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_c_0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_c_2 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56_0 : Ref sig .tc := ⟨.hbm, 76, rfl⟩
abbrev main_v56_1 : Ref sig .tc := ⟨.hbm, 77, rfl⟩
abbrev main_v56_2 : Ref sig .tc := ⟨.hbm, 78, rfl⟩
abbrev main_v56_3 : Ref sig .tc := ⟨.hbm, 79, rfl⟩
abbrev main_c_6 : Ref sig .tc := ⟨.hbm, 80, rfl⟩
abbrev main_v57 : Ref sig .tc := ⟨.hbm, 81, rfl⟩
abbrev main_v58 : Ref sig .tc := ⟨.hbm, 82, rfl⟩
abbrev main_c_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16

abbrev nD : Nat := 1
abbrev τ : Topo := Topo.v7x

variable {F : FTy → Type} [FloatOps F]

abbrev grid0 : Pipeline.Grid := .none

abbrev stage0_0 : Fin 1 → Memref sig .tc .vmem S162x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S162x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S162x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S162x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S162x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S162x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S162x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S162x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S162x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S162x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S162x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S162x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S162x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c1000_i32 : BitVec 32 := 1000#32
  let v306 : BitVec 32 := Scalar.addi c0_i32 c1000_i32
  let c1_i32 : BitVec 32 := 1#32
  ⟨c0_i32, v306, c1_i32⟩
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let v368 : Index := Scalar.indexCast arg5
  let c0_94 : Index := 0#32
  ![v368.toNat, 0]
abbrev stage1_0 : Fin 1 → Memref sig .tc .vmem S1024x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S304x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1x9x48x48 : Shape := ⟨4, ![1, 9, 48, 48]⟩
abbrev S1x36x48x48 : Shape := ⟨4, ![1, 36, 48, 48]⟩
abbrev S3 : Shape := ⟨1, ![3]⟩
abbrev S9x2 : Shape := ⟨2, ![9, 2]⟩
abbrev S_ : Shape := ⟨0, ![]⟩
abbrev S48 : Shape := ⟨1, ![48]⟩
abbrev S48x48 : Shape := ⟨2, ![48, 48]⟩
abbrev S9x1 : Shape := ⟨2, ![9, 1]⟩
abbrev S9 : Shape := ⟨1, ![9]⟩
abbrev S9x1x1 : Shape := ⟨3, ![9, 1, 1]⟩
abbrev S9x48x48 : Shape := ⟨3, ![9, 48, 48]⟩
abbrev S1x48x48 : Shape := ⟨3, ![1, 48, 48]⟩
abbrev S9x48x48x1 : Shape := ⟨4, ![9, 48, 48, 1]⟩
abbrev S9x48x48x4 : Shape := ⟨4, ![9, 48, 48, 4]⟩
abbrev S1x9x48x48x4 : Shape := ⟨5, ![1, 9, 48, 48, 4]⟩
abbrev S1x9x48x48x1 : Shape := ⟨5, ![1, 9, 48, 48, 1]⟩
abbrev S1x20736 : Shape := ⟨2, ![1, 20736]⟩
abbrev S1x20736x4 : Shape := ⟨3, ![1, 20736, 4]⟩
abbrev S20736 : Shape := ⟨1, ![20736]⟩
abbrev S1000 : Shape := ⟨1, ![1000]⟩
abbrev S20736x4 : Shape := ⟨2, ![20736, 4]⟩
abbrev S1000x1 : Shape := ⟨2, ![1000, 1]⟩
abbrev S1000x4 : Shape := ⟨2, ![1000, 4]⟩
abbrev S1x1000 : Shape := ⟨2, ![1, 1000]⟩
abbrev S1000x1000 : Shape := ⟨2, ![1000, 1000]⟩
abbrev S1 : Shape := ⟨1, ![1]⟩
abbrev S301x4 : Shape := ⟨2, ![301, 4]⟩
abbrev S300x4 : Shape := ⟨2, ![300, 4]⟩
abbrev S1x300x4 : Shape := ⟨3, ![1, 300, 4]⟩

abbrev nBuf : Space → Nat
  | .hbm => 326
  | .vmem => 0
  | .smem => 0
  | _ => 0

abbrev hbmTy0_0 (i : Nat) : BufTy := match i % 128 with
  | 0 => ⟨S1x9x48x48, .f32⟩
  | 1 => ⟨S1x36x48x48, .f32⟩
  | 2 => ⟨S3, .f32⟩
  | 3 => ⟨S9x2, .f32⟩
  | 4 => ⟨S_, .f32⟩
  | 5 => ⟨S9x2, .f32⟩
  | 6 => ⟨S9x2, .f32⟩
  | 7 => ⟨S_, .f32⟩
  | 8 => ⟨S9x2, .f32⟩
  | 9 => ⟨S9x2, .f32⟩
  | 10 => ⟨S48, .f32⟩
  | 11 => ⟨S48, .f32⟩
  | 12 => ⟨S48x48, .f32⟩
  | 13 => ⟨S48x48, .f32⟩
  | 14 => ⟨S9x1, .f32⟩
  | 15 => ⟨S9, .f32⟩
  | 16 => ⟨S9x1x1, .f32⟩
  | 17 => ⟨S9x48x48, .f32⟩
  | 18 => ⟨S9x1, .f32⟩
  | 19 => ⟨S9, .f32⟩
  | 20 => ⟨S9x1x1, .f32⟩
  | 21 => ⟨S9x48x48, .f32⟩
  | 22 => ⟨S1x48x48, .f32⟩
  | 23 => ⟨S_, .f32⟩
  | 24 => ⟨S1x48x48, .f32⟩
  | 25 => ⟨S1x48x48, .f32⟩
  | 26 => ⟨S_, .f32⟩
  | 27 => ⟨S9x48x48, .f32⟩
  | 28 => ⟨S9x48x48, .f32⟩
  | 29 => ⟨S9x48x48, .f32⟩
  | 30 => ⟨S9x48x48, .f32⟩
  | 31 => ⟨S1x48x48, .f32⟩
  | 32 => ⟨S_, .f32⟩
  | 33 => ⟨S1x48x48, .f32⟩
  | 34 => ⟨S1x48x48, .f32⟩
  | 35 => ⟨S_, .f32⟩
  | 36 => ⟨S9x48x48, .f32⟩
  | 37 => ⟨S9x48x48, .f32⟩
  | 38 => ⟨S9x48x48, .f32⟩
  | 39 => ⟨S9x48x48, .f32⟩
  | 40 => ⟨S9x48x48x1, .f32⟩
  | 41 => ⟨S9x48x48x1, .f32⟩
  | 42 => ⟨S9x48x48x1, .f32⟩
  | 43 => ⟨S9x48x48x1, .f32⟩
  | 44 => ⟨S9x48x48x4, .f32⟩
  | 45 => ⟨S1x9x48x48x4, .f32⟩
  | 46 => ⟨S1x9x48x48x4, .f32⟩
  | 47 => ⟨S1x9x48x48x4, .f32⟩
  | 48 => ⟨S_, .f32⟩
  | 49 => ⟨S1x9x48x48x4, .f32⟩
  | 50 => ⟨S1x9x48x48x4, .f32⟩
  | 51 => ⟨S1x9x48x48x1, .f32⟩
  | 52 => ⟨S1x9x48x48, .f32⟩
  | 53 => ⟨S1x9x48x48x1, .f32⟩
  | 54 => ⟨S1x9x48x48, .f32⟩
  | 55 => ⟨S1x9x48x48x1, .f32⟩
  | 56 => ⟨S1x9x48x48, .f32⟩
  | 57 => ⟨S1x9x48x48, .f32⟩
  | 58 => ⟨S1x9x48x48x1, .f32⟩
  | 59 => ⟨S1x9x48x48, .f32⟩
  | 60 => ⟨S1x9x48x48, .f32⟩
  | 61 => ⟨S_, .f32⟩
  | 62 => ⟨S1x9x48x48, .f32⟩
  | 63 => ⟨S1x9x48x48, .f32⟩
  | 64 => ⟨S_, .f32⟩
  | 65 => ⟨S1x9x48x48, .f32⟩
  | 66 => ⟨S1x9x48x48, .f32⟩
  | 67 => ⟨S_, .f32⟩
  | 68 => ⟨S1x9x48x48, .f32⟩
  | 69 => ⟨S1x9x48x48, .f32⟩
  | 70 => ⟨S_, .f32⟩
  | 71 => ⟨S1x9x48x48, .f32⟩
  | 72 => ⟨S1x9x48x48, .f32⟩
  | 73 => ⟨S1x9x48x48, .f32⟩
  | 74 => ⟨S1x9x48x48, .f32⟩
  | 75 => ⟨S1x9x48x48x1, .f32⟩
  | 76 => ⟨S1x9x48x48x1, .f32⟩
  | 77 => ⟨S1x9x48x48x1, .f32⟩
  | 78 => ⟨S1x9x48x48x1, .f32⟩
  | 79 => ⟨S1x9x48x48x4, .f32⟩
  | 80 => ⟨S_, .f32⟩
  | 81 => ⟨S1x9x48x48, .f32⟩
  | 82 => ⟨S1x9x48x48, .i1⟩
  | 83 => ⟨S_, .f32⟩
  | 84 => ⟨S1x9x48x48, .f32⟩
  | 85 => ⟨S1x9x48x48, .i1⟩
  | 86 => ⟨S1x9x48x48, .i1⟩
  | 87 => ⟨S1x20736, .i1⟩
  | 88 => ⟨S1x20736x4, .f32⟩
  | 89 => ⟨S1x20736, .f32⟩
  | 90 => ⟨S_, .f32⟩
  | 91 => ⟨S_, .f32⟩
  | 92 => ⟨S1x20736, .f32⟩
  | 93 => ⟨S1x20736, .f32⟩
  | 94 => ⟨S20736, .f32⟩
  | 95 => ⟨S20736, .f32⟩
  | 96 => ⟨S20736, .i32⟩
  | 97 => ⟨S20736, .f32⟩
  | 98 => ⟨S20736, .i32⟩
  | 99 => ⟨S1000, .i32⟩
  | 100 => ⟨S20736x4, .f32⟩
  | 101 => ⟨S_, .i32⟩
  | 102 => ⟨S1000, .i32⟩
  | 103 => ⟨S1000, .i1⟩
  | 104 => ⟨S_, .i32⟩
  | 105 => ⟨S1000, .i32⟩
  | 106 => ⟨S1000, .i32⟩
  | 107 => ⟨S1000, .i32⟩
  | 108 => ⟨S1000x1, .i32⟩
  | 109 => ⟨S1000x4, .f32⟩
  | 110 => ⟨S20736, .f32⟩
  | 111 => ⟨S_, .i32⟩
  | 112 => ⟨S1000, .i32⟩
  | 113 => ⟨S1000, .i1⟩
  | 114 => ⟨S_, .i32⟩
  | 115 => ⟨S1000, .i32⟩
  | 116 => ⟨S1000, .i32⟩
  | 117 => ⟨S1000, .i32⟩
  | 118 => ⟨S1000x1, .i32⟩
  | 119 => ⟨S1000, .f32⟩
  | 120 => ⟨S1000x1, .f32⟩
  | 121 => ⟨S1000, .f32⟩
  | 122 => ⟨S1000x1, .f32⟩
  | 123 => ⟨S1000, .f32⟩
  | 124 => ⟨S1000x1, .f32⟩
  | 125 => ⟨S1000, .f32⟩
  | 126 => ⟨S1000x1, .f32⟩
  | 127 => ⟨S1000, .f32⟩
  | _ => ⟨S1x9x48x48, .f32⟩

abbrev hbmTy0_1 (i : Nat) : BufTy := match i % 128 with
  | 0 => ⟨S1000, .f32⟩
  | 1 => ⟨S1000, .f32⟩
  | 2 => ⟨S1000, .i32⟩
  | 3 => ⟨S1000, .f32⟩
  | 4 => ⟨S1000, .i32⟩
  | 5 => ⟨S1000, .i32⟩
  | 6 => ⟨S_, .i32⟩
  | 7 => ⟨S1000, .i32⟩
  | 8 => ⟨S1000, .i1⟩
  | 9 => ⟨S_, .i32⟩
  | 10 => ⟨S1000, .i32⟩
  | 11 => ⟨S1000, .i32⟩
  | 12 => ⟨S1000, .i32⟩
  | 13 => ⟨S1000x1, .i32⟩
  | 14 => ⟨S1000, .f32⟩
  | 15 => ⟨S_, .i32⟩
  | 16 => ⟨S1000, .i32⟩
  | 17 => ⟨S1000, .i1⟩
  | 18 => ⟨S_, .i32⟩
  | 19 => ⟨S1000, .i32⟩
  | 20 => ⟨S1000, .i32⟩
  | 21 => ⟨S1000, .i32⟩
  | 22 => ⟨S1000x1, .i32⟩
  | 23 => ⟨S1000, .f32⟩
  | 24 => ⟨S_, .i32⟩
  | 25 => ⟨S1000, .i32⟩
  | 26 => ⟨S1000, .i1⟩
  | 27 => ⟨S_, .i32⟩
  | 28 => ⟨S1000, .i32⟩
  | 29 => ⟨S1000, .i32⟩
  | 30 => ⟨S1000, .i32⟩
  | 31 => ⟨S1000x1, .i32⟩
  | 32 => ⟨S1000, .f32⟩
  | 33 => ⟨S_, .i32⟩
  | 34 => ⟨S1000, .i32⟩
  | 35 => ⟨S1000, .i1⟩
  | 36 => ⟨S_, .i32⟩
  | 37 => ⟨S1000, .i32⟩
  | 38 => ⟨S1000, .i32⟩
  | 39 => ⟨S1000, .i32⟩
  | 40 => ⟨S1000x1, .i32⟩
  | 41 => ⟨S1000, .f32⟩
  | 42 => ⟨S1000, .f32⟩
  | 43 => ⟨S_, .i32⟩
  | 44 => ⟨S1000, .i32⟩
  | 45 => ⟨S1000, .i1⟩
  | 46 => ⟨S_, .i32⟩
  | 47 => ⟨S1000, .i32⟩
  | 48 => ⟨S1000, .i32⟩
  | 49 => ⟨S1000, .i32⟩
  | 50 => ⟨S1000x1, .i32⟩
  | 51 => ⟨S1000, .f32⟩
  | 52 => ⟨S_, .i32⟩
  | 53 => ⟨S1000, .i32⟩
  | 54 => ⟨S1000, .i1⟩
  | 55 => ⟨S_, .i32⟩
  | 56 => ⟨S1000, .i32⟩
  | 57 => ⟨S1000, .i32⟩
  | 58 => ⟨S1000, .i32⟩
  | 59 => ⟨S1000x1, .i32⟩
  | 60 => ⟨S1000, .f32⟩
  | 61 => ⟨S1000x1, .f32⟩
  | 62 => ⟨S1x1000, .f32⟩
  | 63 => ⟨S1000x1000, .f32⟩
  | 64 => ⟨S1000x1000, .f32⟩
  | 65 => ⟨S1000x1000, .f32⟩
  | 66 => ⟨S1000x1, .f32⟩
  | 67 => ⟨S1x1000, .f32⟩
  | 68 => ⟨S1000x1000, .f32⟩
  | 69 => ⟨S1000x1000, .f32⟩
  | 70 => ⟨S1000x1000, .f32⟩
  | 71 => ⟨S1000x1, .f32⟩
  | 72 => ⟨S1x1000, .f32⟩
  | 73 => ⟨S1000x1000, .f32⟩
  | 74 => ⟨S1000x1000, .f32⟩
  | 75 => ⟨S1000x1000, .f32⟩
  | 76 => ⟨S1000x1, .f32⟩
  | 77 => ⟨S1x1000, .f32⟩
  | 78 => ⟨S1000x1000, .f32⟩
  | 79 => ⟨S1000x1000, .f32⟩
  | 80 => ⟨S1000x1000, .f32⟩
  | 81 => ⟨S1000x1000, .f32⟩
  | 82 => ⟨S_, .f32⟩
  | 83 => ⟨S1000x1000, .f32⟩
  | 84 => ⟨S1000x1000, .f32⟩
  | 85 => ⟨S_, .f32⟩
  | 86 => ⟨S1000x1000, .f32⟩
  | 87 => ⟨S1000x1000, .f32⟩
  | 88 => ⟨S1000x1000, .f32⟩
  | 89 => ⟨S_, .f32⟩
  | 90 => ⟨S1000x1000, .f32⟩
  | 91 => ⟨S1000x1000, .f32⟩
  | 92 => ⟨S_, .f32⟩
  | 93 => ⟨S1000x1000, .f32⟩
  | 94 => ⟨S1000x1000, .f32⟩
  | 95 => ⟨S1000x1000, .f32⟩
  | 96 => ⟨S1x1000, .f32⟩
  | 97 => ⟨S_, .f32⟩
  | 98 => ⟨S1x1000, .f32⟩
  | 99 => ⟨S1x1000, .f32⟩
  | 100 => ⟨S1000x1000, .f32⟩
  | 101 => ⟨S1000x1000, .f32⟩
  | 102 => ⟨S1000, .f32⟩
  | 103 => ⟨S_, .f32⟩
  | 104 => ⟨S1000, .f32⟩
  | 105 => ⟨S1000, .i1⟩
  | 106 => ⟨S1000, .i32⟩
  | 107 => ⟨S_, .i32⟩
  | 108 => ⟨S1000, .i32⟩
  | 109 => ⟨S1000x1000, .f32⟩
  | 110 => ⟨S_, .i32⟩
  | 111 => ⟨S1000, .i1⟩
  | 112 => ⟨S_, .i32⟩
  | 113 => ⟨S_, .i1⟩
  | 114 => ⟨S1, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S1x9x48x48, .f32⟩

abbrev hbmTy0_2 (i : Nat) : BufTy := match i % 128 with
  | 0 => ⟨S_, .i32⟩
  | 1 => ⟨S1x1000, .f32⟩
  | 2 => ⟨S1000, .f32⟩
  | 3 => ⟨S_, .f32⟩
  | 4 => ⟨S1000, .f32⟩
  | 5 => ⟨S1000, .i1⟩
  | 6 => ⟨S_, .i32⟩
  | 7 => ⟨S_, .i1⟩
  | 8 => ⟨S_, .i32⟩
  | 9 => ⟨S_, .i32⟩
  | 10 => ⟨S_, .i32⟩
  | 11 => ⟨S1, .i1⟩
  | 12 => ⟨S_, .i1⟩
  | 13 => ⟨S1000, .i1⟩
  | 14 => ⟨S1000, .i1⟩
  | 15 => ⟨S_, .i32⟩
  | 16 => ⟨S_, .i1⟩
  | 17 => ⟨S_, .i32⟩
  | 18 => ⟨S_, .i32⟩
  | 19 => ⟨S_, .i32⟩
  | 20 => ⟨S1, .i32⟩
  | 21 => ⟨S_, .i1⟩
  | 22 => ⟨S1000, .i1⟩
  | 23 => ⟨S1000, .i1⟩
  | 24 => ⟨S1000, .i1⟩
  | 25 => ⟨S_, .i32⟩
  | 26 => ⟨S_, .i32⟩
  | 27 => ⟨S_, .i32⟩
  | 28 => ⟨S1000, .i32⟩
  | 29 => ⟨S1000, .i1⟩
  | 30 => ⟨S_, .i32⟩
  | 31 => ⟨S1000, .i32⟩
  | 32 => ⟨S1000, .i32⟩
  | 33 => ⟨S1000, .i32⟩
  | 34 => ⟨S1000x1, .i32⟩
  | 35 => ⟨S1000x4, .f32⟩
  | 36 => ⟨S1000, .i32⟩
  | 37 => ⟨S_, .i32⟩
  | 38 => ⟨S_, .i32⟩
  | 39 => ⟨S1000, .i32⟩
  | 40 => ⟨S_, .i32⟩
  | 41 => ⟨S1000, .i32⟩
  | 42 => ⟨S1000, .i32⟩
  | 43 => ⟨S_, .i32⟩
  | 44 => ⟨S1000, .i32⟩
  | 45 => ⟨S1000, .i1⟩
  | 46 => ⟨S1000, .i1⟩
  | 47 => ⟨S_, .i32⟩
  | 48 => ⟨S_, .i32⟩
  | 49 => ⟨S1000, .i32⟩
  | 50 => ⟨S1000, .i32⟩
  | 51 => ⟨S_, .f32⟩
  | 52 => ⟨S301x4, .f32⟩
  | 53 => ⟨S1000x1, .i1⟩
  | 54 => ⟨S_, .f32⟩
  | 55 => ⟨S_, .f32⟩
  | 56 => ⟨S1000x4, .i1⟩
  | 57 => ⟨S1000x4, .f32⟩
  | 58 => ⟨S1000x4, .f32⟩
  | 59 => ⟨S_, .i32⟩
  | 60 => ⟨S1000, .i32⟩
  | 61 => ⟨S1000, .i1⟩
  | 62 => ⟨S_, .i32⟩
  | 63 => ⟨S1000, .i32⟩
  | 64 => ⟨S1000, .i32⟩
  | 65 => ⟨S1000, .i32⟩
  | 66 => ⟨S1000x1, .i32⟩
  | 67 => ⟨S301x4, .f32⟩
  | 68 => ⟨S300x4, .f32⟩
  | 69 => ⟨S1x300x4, .f32⟩
  | _ => ⟨S1x9x48x48, .f32⟩

abbrev hbmTy (i : Nat) : BufTy := match i / 128 with
  | 0 => hbmTy0_0 i
  | 1 => hbmTy0_1 i
  | 2 => hbmTy0_2 i
  | _ => ⟨S1x9x48x48, .f32⟩

abbrev bufTy : (tb : Table) → Fin (tcTables nBuf tb) → BufTy
  | .hbm, ⟨i, _⟩ => hbmTy i
  | _, _ => ⟨S1x9x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_13 : Ref sig .tc := ⟨.hbm, 90, rfl⟩
abbrev main_call0_v0 : Ref sig .tc := ⟨.hbm, 91, rfl⟩
abbrev main_call0_v1 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_v0 : Ref sig .tc := ⟨.hbm, 96, rfl⟩
abbrev main_call1_v1_0 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c : Ref sig .tc := ⟨.hbm, 101, rfl⟩
abbrev main_v79 : Ref sig .tc := ⟨.hbm, 102, rfl⟩
abbrev main_v80 : Ref sig .tc := ⟨.hbm, 103, rfl⟩
abbrev main_c_14 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_15 : Ref sig .tc := ⟨.hbm, 111, rfl⟩
abbrev main_v87 : Ref sig .tc := ⟨.hbm, 112, rfl⟩
abbrev main_v88 : Ref sig .tc := ⟨.hbm, 113, rfl⟩
abbrev main_c_16 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_call2_v0 : Ref sig .tc := ⟨.hbm, 130, rfl⟩
abbrev main_call2_v1_0 : Ref sig .tc := ⟨.hbm, 131, rfl⟩
abbrev main_v104 : Ref sig .tc := ⟨.hbm, 132, rfl⟩
abbrev main_v105 : Ref sig .tc := ⟨.hbm, 133, rfl⟩
abbrev main_c_17 : Ref sig .tc := ⟨.hbm, 134, rfl⟩
abbrev main_v106 : Ref sig .tc := ⟨.hbm, 135, rfl⟩
abbrev main_v107 : Ref sig .tc := ⟨.hbm, 136, rfl⟩
abbrev main_c_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_19 : Ref sig .tc := ⟨.hbm, 143, rfl⟩
abbrev main_v113 : Ref sig .tc := ⟨.hbm, 144, rfl⟩
abbrev main_v114 : Ref sig .tc := ⟨.hbm, 145, rfl⟩
abbrev main_c_20 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_21 : Ref sig .tc := ⟨.hbm, 152, rfl⟩
abbrev main_v120 : Ref sig .tc := ⟨.hbm, 153, rfl⟩
abbrev main_v121 : Ref sig .tc := ⟨.hbm, 154, rfl⟩
abbrev main_c_22 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_23 : Ref sig .tc := ⟨.hbm, 161, rfl⟩
abbrev main_v127 : Ref sig .tc := ⟨.hbm, 162, rfl⟩
abbrev main_v128 : Ref sig .tc := ⟨.hbm, 163, rfl⟩
abbrev main_c_24 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_c_25 : Ref sig .tc := ⟨.hbm, 171, rfl⟩
abbrev main_v135 : Ref sig .tc := ⟨.hbm, 172, rfl⟩
abbrev main_v136 : Ref sig .tc := ⟨.hbm, 173, rfl⟩
abbrev main_c_26 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_27 : Ref sig .tc := ⟨.hbm, 180, rfl⟩
abbrev main_v142 : Ref sig .tc := ⟨.hbm, 181, rfl⟩
abbrev main_v143 : Ref sig .tc := ⟨.hbm, 182, rfl⟩
abbrev main_c_28 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_29 : Ref sig .tc := ⟨.hbm, 210, rfl⟩
abbrev main_v170 : Ref sig .tc := ⟨.hbm, 211, rfl⟩
abbrev main_v171 : Ref sig .tc := ⟨.hbm, 212, rfl⟩
abbrev main_cst_30 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_31 : Ref sig .tc := ⟨.hbm, 217, rfl⟩
abbrev main_v175 : Ref sig .tc := ⟨.hbm, 218, rfl⟩
abbrev main_v176 : Ref sig .tc := ⟨.hbm, 219, rfl⟩
abbrev main_cst_32 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_33 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_34 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_c_35 : Ref sig .tc := ⟨.hbm, 235, rfl⟩
abbrev main_v189_0 : Ref sig .tc := ⟨.hbm, 236, rfl⟩
abbrev main_v189_1 : Ref sig .tc := ⟨.hbm, 237, rfl⟩
abbrev main_v189_2 : Ref sig .tc := ⟨.hbm, 238, rfl⟩
abbrev main_v189_3 : Ref sig .tc := ⟨.hbm, 239, rfl⟩
abbrev main_while0c_c_48 : Ref sig .tc := ⟨.hbm, 240, rfl⟩
abbrev main_while0c_v217 : Ref sig .tc := ⟨.hbm, 241, rfl⟩
abbrev main_while0b_call3_v0 : Ref sig .tc := ⟨.hbm, 242, rfl⟩
abbrev main_while0b_v217 : Ref sig .tc := ⟨.hbm, 243, rfl⟩
abbrev main_while0b_c_48 : Ref sig .tc := ⟨.hbm, 244, rfl⟩
abbrev main_while0b_v218 : Ref sig .tc := ⟨.hbm, 245, rfl⟩
abbrev main_while0b_c_49 : Ref sig .tc := ⟨.hbm, 246, rfl⟩
abbrev main_while0b_v219 : Ref sig .tc := ⟨.hbm, 247, rfl⟩
abbrev main_while0b_v220 : Ref sig .tc := ⟨.hbm, 248, rfl⟩
abbrev main_while0b_c_50 : Ref sig .tc := ⟨.hbm, 249, rfl⟩
abbrev main_while0b_c_51 : Ref sig .tc := ⟨.hbm, 250, rfl⟩
abbrev main_while0b_v221 : Ref sig .tc := ⟨.hbm, 251, rfl⟩
abbrev main_while0b_c_52 : Ref sig .tc := ⟨.hbm, 252, rfl⟩
abbrev main_while0b_c_53 : Ref sig .tc := ⟨.hbm, 253, rfl⟩
abbrev main_while0b_v222 : Ref sig .tc := ⟨.hbm, 254, rfl⟩
abbrev main_while0b_c_54 : Ref sig .tc := ⟨.hbm, 255, rfl⟩
abbrev main_while0b_v223 : Ref sig .tc := ⟨.hbm, 256, rfl⟩
abbrev main_while0b_v224 : Ref sig .tc := ⟨.hbm, 257, rfl⟩
abbrev main_while0b_v225 : Ref sig .tc := ⟨.hbm, 258, rfl⟩
abbrev main_while0b_cst_55 : Ref sig .tc := ⟨.hbm, 259, rfl⟩
abbrev main_while0b_v226 : Ref sig .tc := ⟨.hbm, 260, rfl⟩
abbrev main_while0b_v227 : Ref sig .tc := ⟨.hbm, 261, rfl⟩
abbrev main_while0b_c_56 : Ref sig .tc := ⟨.hbm, 262, rfl⟩
abbrev main_while0b_v228 : Ref sig .tc := ⟨.hbm, 263, rfl⟩
abbrev main_while0b_c_57 : Ref sig .tc := ⟨.hbm, 264, rfl⟩
abbrev main_while0b_v229 : Ref sig .tc := ⟨.hbm, 265, rfl⟩
abbrev main_while0b_v230 : Ref sig .tc := ⟨.hbm, 266, rfl⟩
abbrev main_while0b_v231 : Ref sig .tc := ⟨.hbm, 267, rfl⟩
abbrev main_while0b_v232 : Ref sig .tc := ⟨.hbm, 268, rfl⟩
abbrev main_while0b_v233 : Ref sig .tc := ⟨.hbm, 269, rfl⟩
abbrev main_while0b_v234 : Ref sig .tc := ⟨.hbm, 270, rfl⟩
abbrev main_while0b_c_58 : Ref sig .tc := ⟨.hbm, 271, rfl⟩
abbrev main_while0b_v235 : Ref sig .tc := ⟨.hbm, 272, rfl⟩
abbrev main_while0b_c_59 : Ref sig .tc := ⟨.hbm, 273, rfl⟩
abbrev main_while0b_v236 : Ref sig .tc := ⟨.hbm, 274, rfl⟩
abbrev main_while0b_v237 : Ref sig .tc := ⟨.hbm, 275, rfl⟩
abbrev main_while0b_v238 : Ref sig .tc := ⟨.hbm, 276, rfl⟩
abbrev main_while0b_c_60 : Ref sig .tc := ⟨.hbm, 277, rfl⟩
abbrev main_while0b_v239 : Ref sig .tc := ⟨.hbm, 278, rfl⟩
abbrev main_while0b_v240 : Ref sig .tc := ⟨.hbm, 279, rfl⟩
abbrev main_while0b_v241 : Ref sig .tc := ⟨.hbm, 280, rfl⟩
abbrev main_while0b_c_61 : Ref sig .tc := ⟨.hbm, 281, rfl⟩
abbrev main_while0b_v242 : Ref sig .tc := ⟨.hbm, 282, rfl⟩
abbrev main_c_36 : Ref sig .tc := ⟨.hbm, 283, rfl⟩
abbrev main_v190 : Ref sig .tc := ⟨.hbm, 284, rfl⟩
abbrev main_v191 : Ref sig .tc := ⟨.hbm, 285, rfl⟩
abbrev main_c_37 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_call4_call0_c : Ref sig .tc := ⟨.hbm, 293, rfl⟩
abbrev main_call4_call0_v0 : Ref sig .tc := ⟨.hbm, 294, rfl⟩
abbrev main_v198 : Ref sig .tc := ⟨.hbm, 295, rfl⟩
abbrev main_c_38 : Ref sig .tc := ⟨.hbm, 296, rfl⟩
abbrev main_v199 : Ref sig .tc := ⟨.hbm, 297, rfl⟩
abbrev main_v200 : Ref sig .tc := ⟨.hbm, 298, rfl⟩
abbrev main_c_39 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_c_40 : Ref sig .tc := ⟨.hbm, 303, rfl⟩
abbrev main_call5_v0 : Ref sig .tc := ⟨.hbm, 304, rfl⟩
abbrev main_call5_v1 : Ref sig .tc := ⟨.hbm, 305, rfl⟩
abbrev main_v204 : Ref sig .tc := ⟨.hbm, 306, rfl⟩
abbrev main_cst_41 : Ref sig .tc := ⟨.hbm, 307, rfl⟩
abbrev main_v205 : Ref sig .tc := ⟨.hbm, 308, rfl⟩
abbrev main_v206 : Ref sig .tc := ⟨.hbm, 309, rfl⟩
abbrev main_cst_42 : Ref sig .tc := ⟨.hbm, 310, rfl⟩
abbrev main_call6_v0 : Ref sig .tc := ⟨.hbm, 311, rfl⟩
abbrev main_call6_v1 : Ref sig .tc := ⟨.hbm, 312, rfl⟩
abbrev main_call6_v2 : Ref sig .tc := ⟨.hbm, 313, rfl⟩
abbrev main_v207 : Ref sig .tc := ⟨.hbm, 314, rfl⟩
abbrev main_c_43 : Ref sig .tc := ⟨.hbm, 315, rfl⟩
abbrev main_v208 : Ref sig .tc := ⟨.hbm, 316, rfl⟩
abbrev main_v209 : Ref sig .tc := ⟨.hbm, 317, rfl⟩
abbrev main_c_44 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩

abbrev nD : Nat := 1
abbrev τ : Topo := Topo.v7x

variable {F : FTy → Type} [FloatOps F]

abbrev main_while0_count : Scf.Loop 32 := ⟨0#32, 1000#32, 1#32⟩
-- ==== Proof.Spec.lean ====
/-
  The boxes of the problem, one per anchor and cell, as functions of a score and a delta table over the extended reals.
  Box `n` belongs to anchor `n / 2304`, row `n / 48 % 48` and column `n % 48`.
-/
module

public import Idealize.ShloMosaic.PureOps.Ideal
public import Idealize.ShloMosaic.Lib.Pointwise

@[expose] public section

noncomputable section

namespace Cert.Spec

open Idealize.ShloMosaic

/-- A 32-bit float word read as an extended real. -/
abbrev lit (b : BitVec 32) : EReal := Ideal.ofBits FTy.f32 b

/-- Two four-axis indices with equal coordinates are equal. -/
theorem ix4_eq {n₀ n₁ n₂ n₃ : ℕ} {a a' : Fin n₀} {b b' : Fin n₁} {c c' : Fin n₂} {d d' : Fin n₃} (h₀ : a.val = a'.val)
    (h₁ : b.val = b'.val) (h₂ : c.val = c'.val) (h₃ : d.val = d'.val) : ix4 a b c d = ix4 a' b' c' d' := by
  obtain rfl := Fin.ext h₀; obtain rfl := Fin.ext h₁; obtain rfl := Fin.ext h₂; obtain rfl := Fin.ext h₃
  rfl

/-- The flat score table of a score array laid out by anchor, row and column. -/
def scOf (x : (⟨4, ![1, 9, 48, 48]⟩ : Shape).Idx → EReal) (n : Fin 20736) : EReal :=
  x (ix4 0 ⟨n.val / 2304, by omega⟩ ⟨n.val / 48 % 48, by omega⟩ ⟨n.val % 48, by omega⟩)

/-- The flat delta table, four numbers for each box, of a delta array whose elements are taken in their order. -/
def deOf (x : (⟨4, ![1, 36, 48, 48]⟩ : Shape).Idx → EReal) (n : Fin 20736) (k : Fin 4) : EReal :=
  x (ix4 0 ⟨n.val / 2304 * 4 + n.val / 48 % 48 / 12, by omega⟩ ⟨n.val / 48 % 48 % 12 * 4 + n.val % 48 / 12, by omega⟩
    ⟨n.val % 48 % 12 * 4 + k.val, by omega⟩)

/-- Every anchor's width, in cells. -/
def sideW (a : ℕ) : EReal :=
  if a = 8 then lit 0x42000000#32 else if a = 7 then lit 0x41800000#32 else if a = 6 then lit 0x41800000#32
  else if a = 5 then lit 0x41000000#32 else if a = 4 then lit 0x41000000#32 else if a = 3 then lit 0x40800000#32
  else if a = 2 then lit 0x41800000#32 else if a = 1 then lit 0x41000000#32 else lit 0x40800000#32

/-- Every anchor's height, in cells. -/
def sideH (a : ℕ) : EReal :=
  if a = 8 then lit 0x41800000#32 else if a = 7 then lit 0x42000000#32 else if a = 6 then lit 0x41000000#32
  else if a = 5 then lit 0x41800000#32 else if a = 4 then lit 0x40800000#32 else if a = 3 then lit 0x41000000#32
  else if a = 2 then lit 0x41800000#32 else if a = 1 then lit 0x41000000#32 else lit 0x40800000#32

/-- A small natural number as the extended real its 32-bit word converts to. -/
abbrev word (k : ℕ) : EReal := FloatOps.sitofp (F := Ideal) FTy.f32 (BitVec.ofNat 32 k)

/-- The left (or top) edge before the upper clamp, from the cell's coordinate, the anchor's side and the delta. -/
def lo (k : ℕ) (side d : EReal) : EReal :=
  max (word k + lit 0x3F000000#32 - Ideal.div side (lit 0x40000000#32) + d) 0

/-- The clamped left (or top) edge. -/
def edge (k : ℕ) (side d : EReal) : EReal := min (lo k side d) (lit 0x42400000#32)

/-- The clamped extent: the clamped far edge less the clamped near edge. -/
def extent (k : ℕ) (side d e : EReal) : EReal :=
  min (lo k side d + max (side + e) 0) (lit 0x42400000#32) - edge k side d

variable (sc : Fin 20736 → EReal) (de : Fin 20736 → Fin 4 → EReal)

/-- The left edge of box `n`. -/
def bx (n : Fin 20736) : EReal := edge (n.val % 48) (sideW (n.val / 2304)) (de n 0)
/-- The top edge of box `n`. -/
def byy (n : Fin 20736) : EReal := edge (n.val / 48 % 48) (sideH (n.val / 2304)) (de n 1)
/-- The width of box `n`. -/
def bw (n : Fin 20736) : EReal := extent (n.val % 48) (sideW (n.val / 2304)) (de n 0) (de n 2)
/-- The height of box `n`. -/
def bh (n : Fin 20736) : EReal := extent (n.val / 48 % 48) (sideH (n.val / 2304)) (de n 1) (de n 3)
/-- The right edge of box `n`, as near edge plus width. -/
def bx2 (n : Fin 20736) : EReal := bx de n + bw de n
/-- The bottom edge of box `n`, as near edge plus height. -/
def by2 (n : Fin 20736) : EReal := byy de n + bh de n
/-- The area of box `n`. -/
def bar (n : Fin 20736) : EReal := bw de n * bh de n
/-- Whether box `n` is at least two cells wide and high, as one bit. -/
def big (n : Fin 20736) : BitVec 1 :=
  IntOp.andi (BitVec.ofBool (decide (lit 0x40000000#32 ≤ bw de n))) (BitVec.ofBool (decide (lit 0x40000000#32 ≤ bh de n)))
/-- The score of box `n`, minus infinity when the box is too small. -/
def fs (n : Fin 20736) : EReal := Scalar.select (big de n) (sc n) (lit 0xFF800000#32)

/-- The four numbers of box `n` that the result holds: left, top, width, height. -/
def prop (n : Fin 20736) (c : Fin 4) : EReal :=
  if c.val = 0 then bx de n else if c.val = 1 then byy de n else if c.val = 2 then bw de n else bh de n

end Cert.Spec
-- ==== Proof.Words.lean ====
/-
  Small facts about 32-bit words that hold natural numbers: the floor quotient as the array language spells it, and the
  comparisons and wraps of an index.
-/
module

public import Idealize.ShloMosaic.PureOps.Ideal
public import Idealize.ShloMosaic.Lib.Routing.Words

@[expose] public section

noncomputable section

namespace Cert.Words

open Idealize.ShloMosaic

/-- A word of a small natural number, read as a signed integer, is that number. -/
theorem toInt_small {p : ℕ} (hp : p < 2 ^ 31) : (BitVec.ofNat 32 p).toInt = (p : ℤ) := by
  have h : (BitVec.ofNat 32 p).toNat = p := by rw [BitVec.toNat_ofNat]; omega
  rw [BitVec.toInt_eq_toNat_cond, h]
  split <;> omega

/-- The floor quotient of a non-negative word by a positive one, spelt by the truncated quotient and a correction by the
    signs, is the natural quotient. -/
theorem floor_word {p q : ℕ} (hp : p < 2 ^ 31) (h0 : 0 < q) (hq : q < 2 ^ 31) (s : BitVec 32) (hs : s = 1#32) :
    Scalar.select (IntOp.andi
        (IntOp.cmpi .ne (IntOp.subi ((IntOp.cmpi .sgt (BitVec.ofNat 32 p) 0#32).setWidth 32)
          ((IntOp.cmpi .slt (BitVec.ofNat 32 p) 0#32).setWidth 32)) s)
        (IntOp.cmpi .ne (IntOp.remsi .vector (BitVec.ofNat 32 p) (BitVec.ofNat 32 q)) 0#32))
      (IntOp.subi (IntOp.divsi .vector (BitVec.ofNat 32 p) (BitVec.ofNat 32 q)) 1#32)
      (IntOp.divsi .vector (BitVec.ofNat 32 p) (BitVec.ofNat 32 q)) = BitVec.ofNat 32 (p / q) := by
  rw [Routing.remsi_word .vector hp h0 hq, Routing.divsi_word .vector hp h0 hq, hs]
  have hlt : IntOp.cmpi .slt (BitVec.ofNat 32 p) 0#32 = 0#1 := by
    have : ¬ ((p : ℤ) < 0) := by omega
    simp [IntOp.cmpi, BitVec.slt, toInt_small hp, this]
  rw [hlt]
  rcases Nat.eq_zero_or_pos p with h | h
  · subst h
    have : IntOp.cmpi .ne (BitVec.ofNat 32 (0 % q)) 0#32 = 0#1 := by simp [IntOp.cmpi]
    rw [this]
    simp [Scalar.select, IntOp.andi]
  · have hgt : IntOp.cmpi .sgt (BitVec.ofNat 32 p) 0#32 = 1#1 := by
      simp [IntOp.cmpi, BitVec.slt, toInt_small hp, h]
    rw [hgt]
    simp [Scalar.select, IntOp.andi, IntOp.cmpi, IntOp.subi]

/-- Two words of small natural numbers are equal just when the numbers are. -/
theorem eq_word {p q : ℕ} (hp : p < 2 ^ 32) (hq : q < 2 ^ 32) :
    IntOp.cmpi .eq (BitVec.ofNat 32 p) (BitVec.ofNat 32 q) = BitVec.ofBool (decide (p = q)) := by
  have : (BitVec.ofNat 32 p = BitVec.ofNat 32 q) ↔ p = q := by
    constructor
    · intro h
      have := congrArg BitVec.toNat h
      simp only [BitVec.toNat_ofNat] at this
      omega
    · rintro rfl; rfl
  simp only [IntOp.cmpi]
  congr 1
  rw [Bool.eq_iff_iff]
  simp [this]

/-- A select on a decided proposition's bit is the conditional. -/
theorem select_dec {α : Type} (p : Prop) [Decidable p] (a b : α) :
    Scalar.select (BitVec.ofBool (decide p)) a b = if p then a else b := by
  by_cases h : p <;> simp [Scalar.select, h]

/-- The wrap of a non-negative index (add the length when negative) leaves it. -/
theorem wrap_word {p : ℕ} (hp : p < 2 ^ 31) (L : BitVec 32) :
    Scalar.select (IntOp.cmpi .slt (BitVec.ofNat 32 p) 0#32) (IntOp.addi (BitVec.ofNat 32 p) L) (BitVec.ofNat 32 p)
      = BitVec.ofNat 32 p := by
  have hlt : IntOp.cmpi .slt (BitVec.ofNat 32 p) 0#32 = 0#1 := by
    have : ¬ ((p : ℤ) < 0) := by omega
    simp [IntOp.cmpi, BitVec.slt, toInt_small hp, this]
  rw [hlt]; simp [Scalar.select]

/-- Two words of small natural numbers differ just when the numbers do. -/
theorem ne_word {p q : ℕ} (hp : p < 2 ^ 32) (hq : q < 2 ^ 32) :
    IntOp.cmpi .ne (BitVec.ofNat 32 p) (BitVec.ofNat 32 q) = BitVec.ofBool (decide (p ≠ q)) := by
  have : (BitVec.ofNat 32 p ≠ BitVec.ofNat 32 q) ↔ p ≠ q := by
    constructor
    · rintro h rfl; exact h rfl
    · intro h e
      have := congrArg BitVec.toNat e
      simp only [BitVec.toNat_ofNat] at this
      omega
  simp only [IntOp.cmpi]
  by_cases h : p = q
  · subst h; simp
  · have h' := bne_iff_ne.mpr (this.mpr h)
    rw [h']; simp [h]

end Cert.Words
-- ==== Proof.KerBox.lean ====
/-
  The box kernel's eight outputs at an index, as the boxes of the problem.
-/
module

public import proofs.«01_k».proof.Proof.Gen.KernelIdeal.Frame
public import proofs.«01_k».proof.Proof.Spec
public import proofs.«01_k».proof.Proof.Words
public import Idealize.ShloMosaic.Lib.Pointwise
public import Idealize.ShloMosaic.Lib.StableHlo.ReadAt
public import Idealize.ShloMosaic.Lib.Pipeline.ValueKit.Acc
public import Idealize.ShloMosaic.Lib.Pipeline.ValueKit.Geometry

@[expose] public section

set_option maxRecDepth 16384

noncomputable section

namespace Cert.KerBox

open Idealize.ShloMosaic Idealize.ShloMosaic.TcCoe
open Cert.KernelIdeal Cert.KernelIdeal.Gen Cert.Spec Cert.Words

/-- The flat position of a cell of the 162 by 128 layout. -/
def flat (r : Fin 162) (l : Fin 128) : Fin 20736 := ⟨r.val * 128 + l.val, by omega⟩

theorem p4 (r : Fin 162) (l : Fin 128) : k0_pay4 (ix2 r l) = BitVec.ofNat 32 (flat r l).val := by
  pointwise [k0_pay4]
  simp [flat, IntOp.addi, IntOp.muli, BitVec.ofNat_add, BitVec.ofNat_mul]

/-- The anchor's number. -/
theorem p5 (r : Fin 162) (l : Fin 128) : k0_pay5 (ix2 r l) = BitVec.ofNat 32 ((flat r l).val / 2304) := by
  pointwise [k0_pay5]
  rw [p4]
  exact floor_word (by have := (flat r l).isLt; omega) (by omega) (by omega) _ (by decide)

/-- The position within the anchor's plane. -/
theorem p6 (r : Fin 162) (l : Fin 128) : k0_pay6 (ix2 r l) = BitVec.ofNat 32 ((flat r l).val % 2304) := by
  pointwise [k0_pay6]
  rw [p4, p5]
  have := (flat r l).isLt
  simp only [IntOp.subi, IntOp.muli]
  apply BitVec.eq_of_toNat_eq
  simp only [BitVec.toNat_sub, BitVec.toNat_mul, BitVec.toNat_ofNat]
  omega

/-- The cell's row. -/
theorem p9 (r : Fin 162) (l : Fin 128) (s : BitVec 32) (hs : s = 1#32) :
    k0_pay9 k0_pay6 48#32 k0_pay7 k0_pay8 s (ix2 r l) = BitVec.ofNat 32 ((flat r l).val / 48 % 48) := by
  pointwise [k0_pay9, k0_pay7, k0_pay8]
  rw [p6]
  have := (flat r l).isLt
  rw [floor_word (p := (flat r l).val % 2304) (q := 48) (by omega) (by omega) (by omega) _ hs]
  congr 1; omega

/-- The cell's column. -/
theorem p10 (r : Fin 162) (l : Fin 128) (s : BitVec 32) (hs : s = 1#32) :
    k0_pay10 k0_pay6 48#32 k0_pay7 k0_pay8 s (ix2 r l) = BitVec.ofNat 32 ((flat r l).val % 48) := by
  pointwise [k0_pay10]
  rw [p9 r l s hs, p6]
  have := (flat r l).isLt
  simp only [IntOp.subi, IntOp.muli]
  rw [show (flat r l).val % 2304 = (flat r l).val / 48 % 48 * 48 + (flat r l).val % 48 by omega, BitVec.ofNat_add, BitVec.ofNat_mul,
    BitVec.add_comm, BitVec.add_sub_cancel]

theorem p11 (r : Fin 162) (l : Fin 128) (k : ℕ) (hk : k < 2 ^ 32) :
    IntOp.cmpi .eq (k0_pay5 (ix2 r l)) (BitVec.ofNat 32 k) = BitVec.ofBool (decide ((flat r l).val / 2304 = k)) := by
  rw [p5, eq_word (by have := (flat r l).isLt; omega) hk]

variable (x0 x1 x2 x3 x4 : Vec Ideal S162x128 .f32)

/-- The select chain of the anchors' widths. -/
theorem wchain (r : Fin 162) (l : Fin 128) (c : EReal) (hc : c = lit 0x41000000#32) :
    k0_pay21 (F := Ideal) k0_pay5 (k0_pay15 k0_pay5) (k0_pay17 k0_pay5) c (ix2 r l) = sideW ((flat r l).val / 2304) := by
  pointwise [k0_pay21, k0_pay15, k0_pay11, k0_pay12, k0_pay13, k0_pay14, k0_pay17, k0_pay18, k0_pay19, k0_pay20]
  simp only [p11 r l 1 (by omega), p11 r l 2 (by omega), p11 r l 3 (by omega), p11 r l 4 (by omega), p11 r l 5 (by omega),
    p11 r l 6 (by omega), p11 r l 7 (by omega), p11 r l 8 (by omega), select_dec, hc]
  rfl

/-- The select chain of the anchors' heights. -/
theorem hchain (r : Fin 162) (l : Fin 128) :
    k0_pay22 (F := Ideal) k0_pay5 (k0_pay16 k0_pay5) (k0_pay17 k0_pay5) (ix2 r l) = sideH ((flat r l).val / 2304) := by
  pointwise [k0_pay22, k0_pay16, k0_pay11, k0_pay12, k0_pay13, k0_pay14, k0_pay17, k0_pay18, k0_pay19, k0_pay20]
  simp only [p11 r l 1 (by omega), p11 r l 2 (by omega), p11 r l 3 (by omega), p11 r l 4 (by omega), p11 r l 5 (by omega),
    p11 r l 6 (by omega), p11 r l 7 (by omega), p11 r l 8 (by omega), select_dec]
  rfl

theorem t43 (r : Fin 162) (l : Fin 128) :
    k0_pay43 x0 x1 x2 x3 x4 (ix2 r l) = lo ((flat r l).val % 48) (sideW ((flat r l).val / 2304)) (x1 (ix2 r l)) := by
  pointwise [k0_pay43, k0_pay24, k0_pay33, k0_pay34, k0_pay35, k0_pay36, k0_pay37, k0_pay39]
  rw [p10 r l _ (by decide), wchain r l _ rfl]
  rfl

theorem t42 (r : Fin 162) (l : Fin 128) :
    max (k0_pay42 x0 x1 x2 x3 x4 (ix2 r l) + x2 (ix2 r l)) 0
      = lo ((flat r l).val / 48 % 48) (sideH ((flat r l).val / 2304)) (x2 (ix2 r l)) := by
  pointwise [k0_pay42, k0_pay23, k0_pay33, k0_pay34, k0_pay35, k0_pay36, k0_pay38, k0_pay39]
  rw [p9 r l _ (by decide), hchain r l]
  rfl

theorem t40 (r : Fin 162) (l : Fin 128) :
    k0_pay40 x0 x1 x2 x3 x4 (ix2 r l) = sideW ((flat r l).val / 2304) := by
  pointwise [k0_pay40, k0_pay33, k0_pay37, k0_pay39]
  rw [wchain r l _ rfl]

theorem t41 (r : Fin 162) (l : Fin 128) :
    k0_pay41 x0 x1 x2 x3 x4 (ix2 r l) = sideH ((flat r l).val / 2304) := by
  pointwise [k0_pay41, k0_pay33, k0_pay38, k0_pay39]
  rw [hchain r l]

/-- The left edge as the kernel holds it. -/
theorem e27 (r : Fin 162) (l : Fin 128) : k0_pay27 (k0_pay43 x0 x1 x2 x3 x4) (ix2 r l)
    = edge ((flat r l).val % 48) (sideW ((flat r l).val / 2304)) (x1 (ix2 r l)) := by
  pointwise [k0_pay27]
  rw [t43]
  rfl

/-- The top edge as the kernel holds it. -/
theorem e28 (r : Fin 162) (l : Fin 128) : k0_pay28 (k0_pay42 x0 x1 x2 x3 x4) (k0_pay44 x0 x1 x2 x3 x4) (ix2 r l)
    = edge ((flat r l).val / 48 % 48) (sideH ((flat r l).val / 2304)) (x2 (ix2 r l)) := by
  pointwise [k0_pay28, k0_pay26, k0_pay44, k0_pay25]
  rw [t42]
  rfl

/-- The box's height as the kernel holds it. -/
theorem t30 (r : Fin 162) (l : Fin 128) :
    k0_pay30 (k0_pay41 x0 x1 x2 x3 x4) (k0_pay42 x0 x1 x2 x3 x4) (k0_pay44 x0 x1 x2 x3 x4) x4 (ix2 r l)
      = extent ((flat r l).val / 48 % 48) (sideH ((flat r l).val / 2304)) (x2 (ix2 r l)) (x4 (ix2 r l)) := by
  pointwise [k0_pay30, k0_pay44, k0_pay25, k0_pay26, k0_pay28]
  rw [t42, t41]
  rfl

/-- A whole-buffer load reads the buffer. -/
theorem ld0 (x : Vec Ideal S162x128 .f32) : View.ld x r0_0 = x := by
  funext j
  obtain ⟨r, l, rfl⟩ : ∃ (r : Fin 162) (l : Fin 128), j = ix2 r l := ⟨j 0, j 1, by funext a; fin_cases a <;> rfl⟩
  pointwise

/-- The same, as the kernel names it. -/
theorem t45 (r : Fin 162) (l : Fin 128) :
    k0_pay45 x0 x1 x2 x3 x4 (ix2 r l)
      = extent ((flat r l).val / 48 % 48) (sideH ((flat r l).val / 2304)) (x2 (ix2 r l)) (x4 (ix2 r l)) := by
  unfold k0_pay45
  rw [ld0]
  exact t30 x0 x1 x2 x3 x4 r l

/-- The box's width as the kernel holds it. -/
theorem t29 (r : Fin 162) (l : Fin 128) :
    k0_pay29 (k0_pay40 x0 x1 x2 x3 x4) (k0_pay43 x0 x1 x2 x3 x4) x3 (ix2 r l)
      = extent ((flat r l).val % 48) (sideW ((flat r l).val / 2304)) (x1 (ix2 r l)) (x3 (ix2 r l)) := by
  pointwise [k0_pay29, k0_pay27]
  rw [t40, t43]
  rfl

/-- The left edges. -/
theorem o5 (r : Fin 162) (l : Fin 128) : out0_5 x0 x1 x2 x3 x4 (ix2 r l)
    = edge ((flat r l).val % 48) (sideW ((flat r l).val / 2304)) (x1 (ix2 r l)) := by
  unfold out0_5
  frame_out
  pointwise
  exact e27 x0 x1 x2 x3 x4 r l

/-- The top edges. -/
theorem o6 (r : Fin 162) (l : Fin 128) : out0_6 x0 x1 x2 x3 x4 (ix2 r l)
    = edge ((flat r l).val / 48 % 48) (sideH ((flat r l).val / 2304)) (x2 (ix2 r l)) := by
  unfold out0_6
  frame_out
  pointwise
  exact e28 x0 x1 x2 x3 x4 r l

/-- The widths. -/
theorem o7 (r : Fin 162) (l : Fin 128) : out0_7 x0 x1 x2 x3 x4 (ix2 r l)
    = extent ((flat r l).val % 48) (sideW ((flat r l).val / 2304)) (x1 (ix2 r l)) (x3 (ix2 r l)) := by
  unfold out0_7
  frame_out
  pointwise
  exact t29 x0 x1 x2 x3 x4 r l

/-- The heights. -/
theorem o8 (r : Fin 162) (l : Fin 128) : out0_8 x0 x1 x2 x3 x4 (ix2 r l)
    = extent ((flat r l).val / 48 % 48) (sideH ((flat r l).val / 2304)) (x2 (ix2 r l)) (x4 (ix2 r l)) := by
  unfold out0_8
  frame_out
  exact t30 x0 x1 x2 x3 x4 r l

/-- The right edges. -/
theorem o9 (r : Fin 162) (l : Fin 128) : out0_9 x0 x1 x2 x3 x4 (ix2 r l)
    = edge ((flat r l).val % 48) (sideW ((flat r l).val / 2304)) (x1 (ix2 r l))
      + extent ((flat r l).val % 48) (sideW ((flat r l).val / 2304)) (x1 (ix2 r l)) (x3 (ix2 r l)) := by
  unfold out0_9
  frame_out
  pointwise [k0_pay32]
  rw [t29, e27]

/-- The bottom edges. -/
theorem o10 (r : Fin 162) (l : Fin 128) : out0_10 x0 x1 x2 x3 x4 (ix2 r l)
    = edge ((flat r l).val / 48 % 48) (sideH ((flat r l).val / 2304)) (x2 (ix2 r l))
      + extent ((flat r l).val / 48 % 48) (sideH ((flat r l).val / 2304)) (x2 (ix2 r l)) (x4 (ix2 r l)) := by
  unfold out0_10
  frame_out
  pointwise [k0_pay1]
  rw [t45, e28]

/-- The areas. -/
theorem o11 (r : Fin 162) (l : Fin 128) : out0_11 x0 x1 x2 x3 x4 (ix2 r l)
    = extent ((flat r l).val % 48) (sideW ((flat r l).val / 2304)) (x1 (ix2 r l)) (x3 (ix2 r l))
      * extent ((flat r l).val / 48 % 48) (sideH ((flat r l).val / 2304)) (x2 (ix2 r l)) (x4 (ix2 r l)) := by
  unfold out0_11
  frame_out
  pointwise [k0_pay2]
  rw [t45, t29]

/-- The masked scores. -/
theorem o12 (r : Fin 162) (l : Fin 128) : out0_12 x0 x1 x2 x3 x4 (ix2 r l)
    = Scalar.select (IntOp.andi
        (BitVec.ofBool (decide (lit 0x40000000#32 ≤ extent ((flat r l).val % 48) (sideW ((flat r l).val / 2304)) (x1 (ix2 r l)) (x3 (ix2 r l)))))
        (BitVec.ofBool (decide (lit 0x40000000#32 ≤ extent ((flat r l).val / 48 % 48) (sideH ((flat r l).val / 2304)) (x2 (ix2 r l)) (x4 (ix2 r l))))))
        (x0 (ix2 r l)) (lit 0xFF800000#32) := by
  unfold out0_12
  frame_out
  pointwise [k0_pay3, k0_pay31]
  rw [t30, t29]

/-! ## The arrays after the region -/

variable (m : (ℓ : Loc nD τ sig) → Buf (Elt Ideal) ℓ) (ρ : Dev nD → PrngReg) (c : Dev nD)

/-- The scores the region reads. -/
theorem in0 (r : Fin 162) (l : Fin 128) :
    V1 m ρ c main_v0 (ix2 r l) = scOf (m ((c : Thread nD τ).loc main_arg0)) (flat r l) := by
  show StableHlo.after hostOps0 _ _ _ = _
  after_reads_at
  refine (congrFun (W0_args m ρ c main_arg0 (by decide)) _).trans ?_
  refine congrArg (m ((c : Thread nD τ).loc main_arg0)) ?_
  apply ix4_eq <;> simp only [flat] <;> omega

/-- The left shifts the region reads. -/
theorem in1 (r : Fin 162) (l : Fin 128) :
    V1 m ρ c main_v4 (ix2 r l) = deOf (m ((c : Thread nD τ).loc main_arg1)) (flat r l) 0 := by
  show StableHlo.after hostOps0 _ _ _ = _
  after_reads_at
  refine (congrFun (W0_args m ρ c main_arg1 (by decide)) _).trans ?_
  refine congrArg (m ((c : Thread nD τ).loc main_arg1)) ?_
  apply ix4_eq <;> simp only [flat] <;> first | omega | rfl

/-- The top shifts the region reads. -/
theorem in2 (r : Fin 162) (l : Fin 128) :
    V1 m ρ c main_v7 (ix2 r l) = deOf (m ((c : Thread nD τ).loc main_arg1)) (flat r l) 1 := by
  show StableHlo.after hostOps0 _ _ _ = _
  after_reads_at
  refine (congrFun (W0_args m ρ c main_arg1 (by decide)) _).trans ?_
  refine congrArg (m ((c : Thread nD τ).loc main_arg1)) ?_
  apply ix4_eq <;> simp only [flat] <;> first | omega | rfl

/-- The width shifts the region reads. -/
theorem in3 (r : Fin 162) (l : Fin 128) :
    V1 m ρ c main_v10 (ix2 r l) = deOf (m ((c : Thread nD τ).loc main_arg1)) (flat r l) 2 := by
  show StableHlo.after hostOps0 _ _ _ = _
  after_reads_at
  refine (congrFun (W0_args m ρ c main_arg1 (by decide)) _).trans ?_
  refine congrArg (m ((c : Thread nD τ).loc main_arg1)) ?_
  apply ix4_eq <;> simp only [flat] <;> first | omega | rfl

/-- The height shifts the region reads. -/
theorem in4 (r : Fin 162) (l : Fin 128) :
    V1 m ρ c main_v13 (ix2 r l) = deOf (m ((c : Thread nD τ).loc main_arg1)) (flat r l) 3 := by
  show StableHlo.after hostOps0 _ _ _ = _
  after_reads_at
  refine (congrFun (W0_args m ρ c main_arg1 (by decide)) _).trans ?_
  refine congrArg (m ((c : Thread nD τ).loc main_arg1)) ?_
  apply ix4_eq <;> simp only [flat] <;> first | omega | rfl

/-- Window 0's block is the whole array. -/
theorem blk0 (t : Fin cfg0.grid.N) (r : Fin 162) (l : Fin 128) :
    iblk0 (V1 m ρ) c 0 t (ix2 r l) = scOf (m ((c : Thread nD τ).loc main_arg0)) (flat r l) := by
  refine Eq.trans ?_ (in0 m ρ c r l)
  blk_simp [iblk0]
  refine congrArg (V1 m ρ c main_v0) (funext fun a => Fin.ext ?_)
  blk_simp
  show 0 * win0_0.size a + _ = _
  rw [Nat.zero_mul, Nat.zero_add]

/-- Window 1's block is the whole array. -/
theorem blk1 (t : Fin cfg0.grid.N) (r : Fin 162) (l : Fin 128) :
    iblk0 (V1 m ρ) c 1 t (ix2 r l) = deOf (m ((c : Thread nD τ).loc main_arg1)) (flat r l) 0 := by
  refine Eq.trans ?_ (in1 m ρ c r l)
  blk_simp [iblk0]
  refine congrArg (V1 m ρ c main_v4) (funext fun a => Fin.ext ?_)
  blk_simp
  show 0 * win0_1.size a + _ = _
  rw [Nat.zero_mul, Nat.zero_add]

/-- Window 2's block is the whole array. -/
theorem blk2 (t : Fin cfg0.grid.N) (r : Fin 162) (l : Fin 128) :
    iblk0 (V1 m ρ) c 2 t (ix2 r l) = deOf (m ((c : Thread nD τ).loc main_arg1)) (flat r l) 1 := by
  refine Eq.trans ?_ (in2 m ρ c r l)
  blk_simp [iblk0]
  refine congrArg (V1 m ρ c main_v7) (funext fun a => Fin.ext ?_)
  blk_simp
  show 0 * win0_2.size a + _ = _
  rw [Nat.zero_mul, Nat.zero_add]

/-- Window 3's block is the whole array. -/
theorem blk3 (t : Fin cfg0.grid.N) (r : Fin 162) (l : Fin 128) :
    iblk0 (V1 m ρ) c 3 t (ix2 r l) = deOf (m ((c : Thread nD τ).loc main_arg1)) (flat r l) 2 := by
  refine Eq.trans ?_ (in3 m ρ c r l)
  blk_simp [iblk0]
  refine congrArg (V1 m ρ c main_v10) (funext fun a => Fin.ext ?_)
  blk_simp
  show 0 * win0_3.size a + _ = _
  rw [Nat.zero_mul, Nat.zero_add]

/-- Window 4's block is the whole array. -/
theorem blk4 (t : Fin cfg0.grid.N) (r : Fin 162) (l : Fin 128) :
    iblk0 (V1 m ρ) c 4 t (ix2 r l) = deOf (m ((c : Thread nD τ).loc main_arg1)) (flat r l) 3 := by
  refine Eq.trans ?_ (in4 m ρ c r l)
  blk_simp [iblk0]
  refine congrArg (V1 m ρ c main_v13) (funext fun a => Fin.ext ?_)
  blk_simp
  show 0 * win0_4.size a + _ = _
  rw [Nat.zero_mul, Nat.zero_add]

/-- The left edges after the region. -/
theorem w5 (r : Fin 162) (l : Fin 128) : W2 m ρ c (Proc.devRef .tc main_v14_0) (ix2 r l)
    = bx (deOf (m ((c : Thread nD τ).loc main_arg1))) (flat r l) := by
  refine (congrFun (W2_arr m ρ c 5) _).trans ?_
  revert r l
  suffices h : (dat0 (V1 m ρ) c).arrAt 5 cfg0.N = fun i => bx (deOf (m ((c : Thread nD τ).loc main_arg1))) (flat (i 0) (i 1)) from
    fun r l => congrFun h (ix2 r l)
  refine (dat0 (V1 m ρ) c).arrAt_eq_of_covers 5 _ (by decide +kernel) fun t hf y => ?_
  blk_simp
  rw [after0_5]
  have e : (win0_5.blk t).view.emb y = y := by
    funext a
    apply Fin.ext
    blk_simp
    show 0 * win0_5.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = bx (deOf (m ((c : Thread nD τ).loc main_arg1))) (flat r l)
  rw [o5]
  simp only [blk0, blk1, blk2, blk3, blk4]
  rfl

/-- The top edges after the region. -/
theorem w6 (r : Fin 162) (l : Fin 128) : W2 m ρ c (Proc.devRef .tc main_v14_1) (ix2 r l)
    = byy (deOf (m ((c : Thread nD τ).loc main_arg1))) (flat r l) := by
  refine (congrFun (W2_arr m ρ c 6) _).trans ?_
  revert r l
  suffices h : (dat0 (V1 m ρ) c).arrAt 6 cfg0.N = fun i => byy (deOf (m ((c : Thread nD τ).loc main_arg1))) (flat (i 0) (i 1)) from
    fun r l => congrFun h (ix2 r l)
  refine (dat0 (V1 m ρ) c).arrAt_eq_of_covers 6 _ (by decide +kernel) fun t hf y => ?_
  blk_simp
  rw [after0_6]
  have e : (win0_6.blk t).view.emb y = y := by
    funext a
    apply Fin.ext
    blk_simp
    show 0 * win0_6.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = byy (deOf (m ((c : Thread nD τ).loc main_arg1))) (flat r l)
  rw [o6]
  simp only [blk0, blk1, blk2, blk3, blk4]
  rfl

/-- The widths after the region. -/
theorem w7 (r : Fin 162) (l : Fin 128) : W2 m ρ c (Proc.devRef .tc main_v14_2) (ix2 r l)
    = bw (deOf (m ((c : Thread nD τ).loc main_arg1))) (flat r l) := by
  refine (congrFun (W2_arr m ρ c 7) _).trans ?_
  revert r l
  suffices h : (dat0 (V1 m ρ) c).arrAt 7 cfg0.N = fun i => bw (deOf (m ((c : Thread nD τ).loc main_arg1))) (flat (i 0) (i 1)) from
    fun r l => congrFun h (ix2 r l)
  refine (dat0 (V1 m ρ) c).arrAt_eq_of_covers 7 _ (by decide +kernel) fun t hf y => ?_
  blk_simp
  rw [after0_7]
  have e : (win0_7.blk t).view.emb y = y := by
    funext a
    apply Fin.ext
    blk_simp
    show 0 * win0_7.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = bw (deOf (m ((c : Thread nD τ).loc main_arg1))) (flat r l)
  rw [o7]
  simp only [blk0, blk1, blk2, blk3, blk4]
  rfl

/-- The heights after the region. -/
theorem w8 (r : Fin 162) (l : Fin 128) : W2 m ρ c (Proc.devRef .tc main_v14_3) (ix2 r l)
    = bh (deOf (m ((c : Thread nD τ).loc main_arg1))) (flat r l) := by
  refine (congrFun (W2_arr m ρ c 8) _).trans ?_
  revert r l
  suffices h : (dat0 (V1 m ρ) c).arrAt 8 cfg0.N = fun i => bh (deOf (m ((c : Thread nD τ).loc main_arg1))) (flat (i 0) (i 1)) from
    fun r l => congrFun h (ix2 r l)
  refine (dat0 (V1 m ρ) c).arrAt_eq_of_covers 8 _ (by decide +kernel) fun t hf y => ?_
  blk_simp
  rw [after0_8]
  have e : (win0_8.blk t).view.emb y = y := by
    funext a
    apply Fin.ext
    blk_simp
    show 0 * win0_8.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = bh (deOf (m ((c : Thread nD τ).loc main_arg1))) (flat r l)
  rw [o8]
  simp only [blk0, blk1, blk2, blk3, blk4]
  rfl

/-- The right edges after the region. -/
theorem w9 (r : Fin 162) (l : Fin 128) : W2 m ρ c (Proc.devRef .tc main_v14_4) (ix2 r l)
    = bx2 (deOf (m ((c : Thread nD τ).loc main_arg1))) (flat r l) := by
  refine (congrFun (W2_arr m ρ c 9) _).trans ?_
  revert r l
  suffices h : (dat0 (V1 m ρ) c).arrAt 9 cfg0.N = fun i => bx2 (deOf (m ((c : Thread nD τ).loc main_arg1))) (flat (i 0) (i 1)) from
    fun r l => congrFun h (ix2 r l)
  refine (dat0 (V1 m ρ) c).arrAt_eq_of_covers 9 _ (by decide +kernel) fun t hf y => ?_
  blk_simp
  rw [after0_9]
  have e : (win0_9.blk t).view.emb y = y := by
    funext a
    apply Fin.ext
    blk_simp
    show 0 * win0_9.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = bx2 (deOf (m ((c : Thread nD τ).loc main_arg1))) (flat r l)
  rw [o9]
  simp only [blk0, blk1, blk2, blk3, blk4]
  rfl

/-- The bottom edges after the region. -/
theorem w10 (r : Fin 162) (l : Fin 128) : W2 m ρ c (Proc.devRef .tc main_v14_5) (ix2 r l)
    = by2 (deOf (m ((c : Thread nD τ).loc main_arg1))) (flat r l) := by
  refine (congrFun (W2_arr m ρ c 10) _).trans ?_
  revert r l
  suffices h : (dat0 (V1 m ρ) c).arrAt 10 cfg0.N = fun i => by2 (deOf (m ((c : Thread nD τ).loc main_arg1))) (flat (i 0) (i 1)) from
    fun r l => congrFun h (ix2 r l)
  refine (dat0 (V1 m ρ) c).arrAt_eq_of_covers 10 _ (by decide +kernel) fun t hf y => ?_
  blk_simp
  rw [after0_10]
  have e : (win0_10.blk t).view.emb y = y := by
    funext a
    apply Fin.ext
    blk_simp
    show 0 * win0_10.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = by2 (deOf (m ((c : Thread nD τ).loc main_arg1))) (flat r l)
  rw [o10]
  simp only [blk0, blk1, blk2, blk3, blk4]
  rfl

/-- The areas after the region. -/
theorem w11 (r : Fin 162) (l : Fin 128) : W2 m ρ c (Proc.devRef .tc main_v14_6) (ix2 r l)
    = bar (deOf (m ((c : Thread nD τ).loc main_arg1))) (flat r l) := by
  refine (congrFun (W2_arr m ρ c 11) _).trans ?_
  revert r l
  suffices h : (dat0 (V1 m ρ) c).arrAt 11 cfg0.N = fun i => bar (deOf (m ((c : Thread nD τ).loc main_arg1))) (flat (i 0) (i 1)) from
    fun r l => congrFun h (ix2 r l)
  refine (dat0 (V1 m ρ) c).arrAt_eq_of_covers 11 _ (by decide +kernel) fun t hf y => ?_
  blk_simp
  rw [after0_11]
  have e : (win0_11.blk t).view.emb y = y := by
    funext a
    apply Fin.ext
    blk_simp
    show 0 * win0_11.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = bar (deOf (m ((c : Thread nD τ).loc main_arg1))) (flat r l)
  rw [o11]
  simp only [blk0, blk1, blk2, blk3, blk4]
  rfl

/-- The masked scores after the region. -/
theorem w12 (r : Fin 162) (l : Fin 128) : W2 m ρ c (Proc.devRef .tc main_v14_7) (ix2 r l)
    = fs (scOf (m ((c : Thread nD τ).loc main_arg0))) (deOf (m ((c : Thread nD τ).loc main_arg1))) (flat r l) := by
  refine (congrFun (W2_arr m ρ c 12) _).trans ?_
  revert r l
  suffices h : (dat0 (V1 m ρ) c).arrAt 12 cfg0.N = fun i => fs (scOf (m ((c : Thread nD τ).loc main_arg0))) (deOf (m ((c : Thread nD τ).loc main_arg1))) (flat (i 0) (i 1)) from
    fun r l => congrFun h (ix2 r l)
  refine (dat0 (V1 m ρ) c).arrAt_eq_of_covers 12 _ (by decide +kernel) fun t hf y => ?_
  blk_simp
  rw [after0_12]
  have e : (win0_12.blk t).view.emb y = y := by
    funext a
    apply Fin.ext
    blk_simp
    show 0 * win0_12.size a + _ = _
    rw [Nat.zero_mul, Nat.zero_add]
  rw [e]
  obtain ⟨r, l, rfl⟩ : ∃ (r : Fin 162) (l : Fin 128), y = ix2 r l := ⟨y 0, y 1, by funext a; fin_cases a <;> rfl⟩
  show _ = fs (scOf (m ((c : Thread nD τ).loc main_arg0))) (deOf (m ((c : Thread nD τ).loc main_arg1))) (flat r l)
  rw [o12]
  simp only [blk0, blk1, blk2, blk3, blk4]
  rfl

end Cert.KerBox
-- ==== Proof.Order.lean ====
/-
  The two orders of the selected boxes agree. Both sorts put the same boxes in increasing order of one injective key; the
  facts here are about sorted positions alone, for any linearly ordered key.
-/
module

public import Idealize.ShloMosaic.Lib.SortFacts
public import Mathlib.Order.Fin.Basic
public import Mathlib.Data.Prod.Lex
public import Mathlib.Order.Interval.Finset.Fin

@[expose] public section

namespace Cert.Order

open Idealize.ShloMosaic

variable {L : Type} [LinearOrder L]

/-- On an increasing list of positions, a stable sort by a key is the sort by the key and then the position. -/
theorem stableSort_lex {n : ℕ} (G : Fin n → L) (l : List (Fin n)) (hl : l.Pairwise (· < ·)) :
    stableSort (fun x y => decide (G x < G y)) l
      = stableSort (fun x y => decide (toLex (G x, x) < toLex (G y, y))) l := by
  induction l with
  | nil => rfl
  | cons a l ih =>
    obtain ⟨ha, hl'⟩ := List.pairwise_cons.mp hl
    unfold stableSort
    rw [ih hl']
    refine insertBefore_congr _ _ _ _ fun b hb => ?_
    have hab : a < b := ha b ((perm_stableSort _ l).mem_iff.mp hb)
    have : ¬ b < a := not_lt.mpr hab.le
    simp [Prod.Lex.toLex_lt_toLex, this]

/-- Sorted positions are in increasing order of the key, and of the position among equal keys. -/
theorem sorted_key {n : ℕ} (R : Fin n → Fin n → Bool) (G : Fin n → L) (h : ∀ a b, R a b = true ↔ G a < G b) {i j : Fin n}
    (hij : i < j) :
    G (sortedFrom R i) < G (sortedFrom R j)
      ∨ (G (sortedFrom R i) = G (sortedFrom R j) ∧ sortedFrom R i < sortedFrom R j) := by
  have e₁ : R = fun x y => decide (G x < G y) := by
    funext x y; rw [Bool.eq_iff_iff, decide_eq_true_iff]; exact h x y
  have e₂ : sortPositions n R = sortPositions n fun x y => decide (toLex (G x, x) < toLex (G y, y)) := by
    rw [e₁]; exact stableSort_lex G _ (List.pairwise_lt_finRange n)
  have e₃ : sortedFrom R = sortedFrom fun x y => decide (toLex (G x, x) < toLex (G y, y)) := by
    funext k; unfold sortedFrom; rw [List.get_of_eq e₂]; rfl
  have hs := sortedFrom_noInversion (fun x y => decide (toLex (G x, x) < toLex (G y, y)))
    (fun x y => decide (toLex (G x, x) < toLex (G y, y)))
    (fun a b hab => by simp only [decide_eq_true_eq, decide_eq_false_iff_not] at *; exact not_lt.mpr hab.le)
    (fun a b hab => hab)
    (fun a b c hab hbc => by
      simp only [decide_eq_false_iff_not, not_lt] at *; exact hbc.trans hab) i j hij
  rw [← e₃, decide_eq_false_iff_not, not_lt] at hs
  have hne : sortedFrom R i ≠ sortedFrom R j := fun e => hij.ne (sortedFrom_injective R e)
  rcases Prod.Lex.toLex_le_toLex.mp hs with h1 | ⟨h1, h2⟩
  · exact Or.inl h1
  · exact Or.inr ⟨h1, lt_of_le_of_ne h2 hne⟩

/-- The padded sort: a thousand distinct keys, all below the key that the twenty-four pads share, come first, in
    increasing order; the pads come last. -/
theorem padded_sort {N : ℕ} (mem : Fin 1000 → Fin N) (hmem : Function.Injective mem) (K : Fin N → L)
    (hK : Function.Injective K) (P : L) (hP : ∀ n, K n < P) (key : Fin 1024 → L)
    (hkey : ∀ (i : Fin 1024) (h : i.val < 1000), key i = K (mem ⟨i.val, h⟩))
    (hpad : ∀ i : Fin 1024, 1000 ≤ i.val → key i = P) (R : Fin 1024 → Fin 1024 → Bool)
    (hR : ∀ a b, R a b = true ↔ key a < key b) :
    ∃ ρ : Fin 1000 → Fin N, StrictMono (K ∘ ρ) ∧ Set.range ρ = Set.range mem
      ∧ (∀ (p : Fin 1024) (hp : p.val < 1000), ∃ h : (sortedFrom R p).val < 1000, ρ ⟨p.val, hp⟩ = mem ⟨(sortedFrom R p).val, h⟩)
      ∧ ∀ p : Fin 1024, 1000 ≤ p.val → 1000 ≤ (sortedFrom R p).val := by
  have hmono : ∀ i j : Fin 1024, i ≤ j → key (sortedFrom R i) ≤ key (sortedFrom R j) := by
    intro i j hij
    rcases lt_or_eq_of_le hij with h | h
    · rcases sorted_key R key hR h with h1 | ⟨h1, -⟩
      · exact h1.le
      · exact h1.le
    · rw [h]
  have hinj := sortedFrom_injective R
  have hsurj := sortedFrom_surjective R
  generalize sortedFrom R = s at hmono hinj hsurj ⊢
  have hlow : ∀ i : Fin 1024, i.val < 1000 → key i < P := fun i h => by rw [hkey i h]; exact hP _
  have A : ∀ p : Fin 1024, p.val < 1000 → (s p).val < 1000 := by
    intro p hp
    by_contra hc
    have hall : ∀ q : Fin 1024, p ≤ q → 1000 ≤ (s q).val := by
      intro q hq
      by_contra h
      have h1 := hmono p q hq
      rw [hpad _ (not_lt.mp hc)] at h1
      exact absurd (hlow _ (not_le.mp h)) (not_lt.mpr h1)
    have hcard := Finset.card_le_card_of_injOn (s := Finset.Ici p) (t := Finset.Ici (⟨1000, by omega⟩ : Fin 1024)) s
      (fun q hq => Finset.mem_coe.mpr (Finset.mem_Ici.mpr (Fin.le_def.mpr (hall q (Finset.mem_Ici.mp (Finset.mem_coe.mp hq))))))
      (fun a _ b _ e => hinj e)
    rw [Fin.card_Ici, Fin.card_Ici] at hcard
    simp only at hcard
    omega
  have B : ∀ p : Fin 1024, 1000 ≤ p.val → 1000 ≤ (s p).val := by
    intro p hp
    by_contra hc
    have hall : ∀ q : Fin 1024, q ≤ p → (s q).val < 1000 := by
      intro q hq
      by_contra h
      have h1 := hmono q p hq
      rw [hpad _ (not_lt.mp h)] at h1
      exact absurd (hlow _ (not_le.mp hc)) (not_lt.mpr h1)
    have hcard := Finset.card_le_card_of_injOn (s := Finset.Iic p) (t := Finset.Iio (⟨1000, by omega⟩ : Fin 1024)) s
      (fun q hq => Finset.mem_coe.mpr (Finset.mem_Iio.mpr (Fin.lt_def.mpr (hall q (Finset.mem_Iic.mp (Finset.mem_coe.mp hq))))))
      (fun a _ b _ e => hinj e)
    rw [Fin.card_Iic, Fin.card_Iio] at hcard
    simp only at hcard
    omega
  refine ⟨fun p => mem ⟨(s ⟨p.val, by omega⟩).val, A _ p.isLt⟩, ?_, ?_, fun p hp => ⟨A p hp, rfl⟩, B⟩
  · intro p q hpq
    have h1 := hmono ⟨p.val, by omega⟩ ⟨q.val, by omega⟩ (Fin.le_def.mpr (Fin.le_def.mp hpq.le))
    rw [hkey _ (A _ p.isLt), hkey _ (A _ q.isLt)] at h1
    refine lt_of_le_of_ne h1 fun e => ?_
    have e1 : (s ⟨p.val, by omega⟩).val = (s ⟨q.val, by omega⟩).val :=
      Fin.mk.inj (hmem (hK e))
    have e2 := hinj (Fin.ext e1)
    have e3 : p.val = q.val := congrArg (fun i : Fin 1024 => i.val) e2
    exact hpq.ne (Fin.ext e3)
  · ext n
    constructor
    · rintro ⟨p, rfl⟩; exact ⟨_, rfl⟩
    · rintro ⟨a, rfl⟩
      obtain ⟨i, hi⟩ := hsurj ⟨a.val, by omega⟩
      have hi' : i.val < 1000 := by
        by_contra h
        have := B i (not_lt.mp h)
        rw [hi] at this
        exact absurd this (not_le.mpr a.isLt)
      refine ⟨⟨i.val, hi'⟩, ?_⟩
      have : (s ⟨i.val, by omega⟩).val = a.val := by
        rw [show (⟨i.val, by omega⟩ : Fin 1024) = i from rfl, hi]
      exact congrArg mem (Fin.ext this)

/-- The reversed stable sort by one part of the key, of positions already in the order of the rest, is in increasing order
    of the key. -/
theorem reversed_sort {N : ℕ} {A : Type} [LinearOrder A] (ord : Fin 1000 → Fin N) (K : Fin N → L) (y : Fin N → A)
    (hlex : ∀ a b : Fin 1000, (y (ord a) < y (ord b) ∨ (y (ord a) = y (ord b) ∧ a < b)) → K (ord b) < K (ord a))
    (R : Fin 1000 → Fin 1000 → Bool) (hR : ∀ a b, R a b = true ↔ y (ord a) < y (ord b)) :
    StrictMono (K ∘ fun p : Fin 1000 => ord (sortedFrom R p.rev))
      ∧ Set.range (fun p : Fin 1000 => ord (sortedFrom R p.rev)) = Set.range ord := by
  constructor
  · intro p q hpq
    exact hlex _ _ (sorted_key R (fun a => y (ord a)) hR (Fin.rev_lt_rev.mpr hpq))
  · ext n
    constructor
    · rintro ⟨p, rfl⟩; exact ⟨_, rfl⟩
    · rintro ⟨a, rfl⟩
      obtain ⟨i, hi⟩ := sortedFrom_surjective R a
      exact ⟨i.rev, by simp only [Fin.rev_rev]; rw [hi]⟩

/-- Two enumerations of one set in increasing order of an injective key are equal. -/
theorem enum_unique {N n : ℕ} (K : Fin N → L) (hK : Function.Injective K) (f g : Fin n → Fin N) (hf : StrictMono (K ∘ f))
    (hg : StrictMono (K ∘ g)) (h : Set.range f = Set.range g) : f = g := by
  have h' : Set.range (K ∘ f) = Set.range (K ∘ g) := by rw [Set.range_comp, Set.range_comp, h]
  have e := (StrictMono.range_inj hf hg).mp h'
  funext p
  exact hK (congrFun e p)

end Cert.Order
-- ==== Proof.Keys.lean ====
/-
  The key that both programs order the selected boxes by: bottom edge downwards, then score downwards, then number
  downwards; and what the boxes' values satisfy.
-/
module

public import proofs.«01_k».proof.Proof.Spec
public import proofs.«01_k».proof.Proof.Words
public import proofs.«01_k».proof.Proof.Order
public import Idealize.ShloMosaic.Lib.IdealHost

@[expose] public section

noncomputable section

namespace Cert.Keys

open Idealize.ShloMosaic Cert.Spec

/-! ## The constants -/

theorem lit_zero : lit 0x00000000#32 = 0 := by simp [Ideal.ofBits, Ideal.ieee]

theorem lit_one : lit 0x3F800000#32 = 1 := Ideal.ofBits_one_f32

theorem lit_neg_one : lit 0xBF800000#32 = ((-(1 : ℝ) : ℝ) : EReal) := by
  simp [Ideal.ofBits, Ideal.ieee, -EReal.coe_mul, -EReal.coe_neg]; norm_num

theorem lit_neg_inf : lit 0xFF800000#32 = ⊥ := by
  simp [Ideal.ofBits, Ideal.ieee]

theorem lit_inf : lit 0x7F800000#32 = ⊤ := by
  simp [Ideal.ofBits, Ideal.ieee]

theorem lit_48 : lit 0x42400000#32 = ((48 : ℝ) : EReal) := by
  simp [Ideal.ofBits, Ideal.ieee, -EReal.coe_mul]; norm_num

/-- The large negative finite score that stands for "dropped" is below zero. -/
theorem lit_low : lit 0xF149F2CA#32 < 0 := by
  have : lit 0xF149F2CA#32 = (((-1 : ℝ) * (2 ^ 23 + 4846282 : ℕ) * (2 : ℝ) ^ (76 : ℤ) : ℝ) : EReal) := by
    simp [Ideal.ofBits, Ideal.ieee, -EReal.coe_mul, -EReal.coe_neg]
  rw [this]
  have h : (0 : ℝ) < 2 ^ (76 : ℤ) := by positivity
  refine EReal.coe_neg'.mpr ?_
  norm_num

/-! ## The boxes' values -/

theorem lo_nonneg (k : ℕ) (s d : EReal) : 0 ≤ lo k s d := le_max_right _ _

theorem edge_nonneg (k : ℕ) (s d : EReal) : 0 ≤ edge k s d :=
  le_min (lo_nonneg k s d) (by rw [lit_48]; exact EReal.coe_nonneg.mpr (by norm_num))

theorem edge_ne_top (k : ℕ) (s d : EReal) : edge k s d ≠ ⊤ := by
  have h : edge k s d ≤ lit 0x42400000#32 := min_le_right _ _
  rw [lit_48] at h
  exact ne_top_of_le_ne_top (EReal.coe_ne_top _) h

theorem edge_ne_bot (k : ℕ) (s d : EReal) : edge k s d ≠ ⊥ :=
  ne_bot_of_le_ne_bot EReal.zero_ne_bot (edge_nonneg k s d)

/-- No extent is negative. -/
theorem extent_nonneg (k : ℕ) (s d e : EReal) : 0 ≤ extent k s d e := by
  unfold extent
  rw [EReal.sub_nonneg (Or.inr (edge_ne_top k s d)) (Or.inr (edge_ne_bot k s d))]
  refine min_le_min ?_ le_rfl
  calc lo k s d = lo k s d + 0 := (add_zero _).symm
    _ ≤ lo k s d + max (s + e) 0 := add_le_add le_rfl (le_max_right _ _)

variable (sc : Fin 20736 → EReal) (de : Fin 20736 → Fin 4 → EReal)

/-- No bottom edge is negative. -/
theorem by2_nonneg (n : Fin 20736) : 0 ≤ by2 de n := add_nonneg (edge_nonneg _ _ _) (extent_nonneg _ _ _ _)

/-- A masked score is minus infinity or a score. -/
theorem fs_cases (n : Fin 20736) : fs sc de n = ⊥ ∨ fs sc de n = sc n := by
  unfold fs Scalar.select
  split
  · exact Or.inr rfl
  · exact Or.inl lit_neg_inf

/-- The score with "dropped" made a large negative number. -/
def fsFin (n : Fin 20736) : EReal := max (fs sc de n) (lit 0xF149F2CA#32)

theorem fsFin_lt (hsc : ∀ n, 0 ≤ sc n) {a b : Fin 20736} (h : fs sc de b < fs sc de a) : fsFin sc de b < fsFin sc de a := by
  unfold fsFin
  have ha : 0 ≤ fs sc de a := by
    rcases fs_cases sc de a with e | e
    · rw [e] at h; exact absurd h not_lt_bot
    · rw [e]; exact hsc a
  have h1 : lit 0xF149F2CA#32 < fs sc de a := lt_of_lt_of_le lit_low ha
  exact lt_of_lt_of_le (max_lt h h1) (le_max_left _ _)

/-- A box is kept at the outset when its score is not negative; equally, when its masked score is finite. -/
theorem keep_iff (hsc : ∀ n, 0 ≤ sc n ∧ sc n < ⊤) (n : Fin 20736) :
    (0 ≤ fsFin sc de n) ↔ max (fs sc de n) (-fs sc de n) < ⊤ := by
  unfold fsFin
  rcases fs_cases sc de n with e | e
  · rw [e]
    constructor
    · intro h
      rw [max_eq_right bot_le] at h
      exact absurd lit_low (not_lt.mpr h)
    · intro h
      rw [EReal.neg_bot] at h
      exact absurd (lt_of_le_of_lt (le_max_right _ _) h) (lt_irrefl _)
  · rw [e]
    obtain ⟨h0, h1⟩ := hsc n
    constructor
    · intro _
      refine max_lt h1 ?_
      have : -sc n ≤ 0 := by
        have := EReal.neg_le_neg_iff.mpr h0
        simpa using this
      exact lt_of_le_of_lt this EReal.zero_lt_top
    · intro _
      exact le_max_of_le_left h0

/-! ## The key -/

/-- The key of box `n`. -/
def key (n : Fin 20736) : EReal ×ₗ EReal ×ₗ EReal :=
  toLex (-by2 de n, toLex (fsFin sc de n, -word n.val))

/-- The key that every padding row has. -/
def padKey : EReal ×ₗ EReal ×ₗ EReal := toLex (-lit 0xBF800000#32, toLex (lit 0xF149F2CA#32, -lit 0x00000000#32))

theorem word_eq (n : Fin 20736) : word n.val = (((n.val : ℝ)) : EReal) := by
  show (((BitVec.ofNat 32 n.val).toInt : ℝ) : EReal) = _
  rw [Words.toInt_small (by have := n.isLt; omega)]
  norm_cast

theorem word_lt {a b : Fin 20736} (h : a < b) : word a.val < word b.val := by
  rw [word_eq, word_eq, EReal.coe_lt_coe_iff]
  exact_mod_cast h

theorem key_injective : Function.Injective (key sc de) := by
  intro a b h
  have h2 : (-word a.val) = -word b.val :=
    congrArg (fun q : EReal ×ₗ EReal ×ₗ EReal => (ofLex (ofLex q).2).2) h
  have h3 := neg_injective h2
  rw [word_eq, word_eq, EReal.coe_eq_coe_iff] at h3
  exact Fin.ext (by exact_mod_cast h3)

theorem key_lt_pad (n : Fin 20736) : key sc de n < padKey := by
  refine Prod.Lex.toLex_lt_toLex.mpr (Or.inl ?_)
  have h1 : -by2 de n ≤ 0 := by
    have := EReal.neg_le_neg_iff.mpr (by2_nonneg de n)
    simpa using this
  refine lt_of_le_of_lt h1 ?_
  rw [lit_neg_one, ← EReal.coe_neg]
  exact EReal.coe_pos.mpr (by norm_num)

/-! ## The selected boxes -/

/-- The order of all boxes by masked score downwards, the earlier first among equals. -/
def topAll : Fin 20736 → Fin 20736 := sortedFrom fun a b => decide (fs sc de b < fs sc de a)

/-- The thousand boxes selected, best first. -/
def top (p : Fin 1000) : Fin 20736 := topAll sc de ⟨p.val, by omega⟩

theorem top_injective : Function.Injective (top sc de) := by
  intro a b h
  unfold top topAll at h
  have h1 := sortedFrom_injective _ h
  exact Fin.ext (Fin.mk.inj h1)

/-- A worse selected box has the smaller key when the bottom edges agree. -/
theorem top_lex (hsc : ∀ n, 0 ≤ sc n) (a b : Fin 1000)
    (h : by2 de (top sc de a) < by2 de (top sc de b) ∨ (by2 de (top sc de a) = by2 de (top sc de b) ∧ a < b)) :
    key sc de (top sc de b) < key sc de (top sc de a) := by
  rcases h with h | ⟨h, hab⟩
  · exact Prod.Lex.toLex_lt_toLex.mpr (Or.inl (EReal.neg_lt_neg_iff.mpr h))
  · refine Prod.Lex.toLex_lt_toLex.mpr (Or.inr ⟨congrArg Neg.neg h.symm, ?_⟩)
    have hs := Order.sorted_key (fun a b : Fin 20736 => decide (fs sc de b < fs sc de a)) (fun n => OrderDual.toDual (fs sc de n))
      (fun a b => by rw [decide_eq_true_iff]; exact Iff.rfl)
      (i := (⟨a.val, by omega⟩ : Fin 20736)) (j := ⟨b.val, by omega⟩) (by exact hab)
    rcases hs with hs | ⟨hs, hlt⟩
    · exact Prod.Lex.toLex_lt_toLex.mpr (Or.inl (fsFin_lt sc de hsc (OrderDual.toDual_lt_toDual.mp hs)))
    · refine Prod.Lex.toLex_lt_toLex.mpr (Or.inr ⟨?_, EReal.neg_lt_neg_iff.mpr (word_lt hlt)⟩)
      unfold fsFin
      exact congrArg (fun x => max x _) (OrderDual.toDual.injective hs).symm

end Cert.Keys
-- ==== Proof.Sorts.lean ====
/-
  The programs' sorts of vectors read at a position, and what their comparators decide over the extended reals.
-/
module

public import proofs.«01_k».proof.KernelIdeal
public import proofs.«01_k».proof.ReferenceIdeal
public import proofs.«01_k».proof.Proof.Keys
public import proofs.«01_k».proof.Proof.Words
public import Idealize.ShloMosaic.Lib.SortFacts
public import Idealize.ShloMosaic.Lib.Pointwise

@[expose] public section

set_option maxRecDepth 16384

noncomputable section

namespace Cert.Sorts

open Idealize.ShloMosaic

/-- The one-coordinate index, written two ways. -/
theorem ofFin_eq {n : ℕ} (k : Fin n) : Shape.Idx.ofFin k = ix1 k := by
  funext a; fin_cases a; rfl

/-- The order a comparator puts on the positions of a vector of tuples. -/
def rel {n : ℕ} {ι : Type} (cmp : ι → ι → BitVec 1) (f : Fin n → ι) (k k' : Fin n) : Bool := cmp (f k) (f k') == 1#1

/-- A sorted vector at a position. -/
theorem sort_at {n : ℕ} {α : Type} (cmp : α → α → BitVec 1) (x : (⟨1, ![n]⟩ : Shape).Idx → α) (p : Fin n) :
    Host.sort ⟨1, ![n]⟩ 0 cmp x (ix1 p) = x (ix1 (sortedFrom (rel cmp fun k => x (ix1 k)) p)) := by
  rw [Host.sort_rank1]
  simp only [ofFin_eq]
  rfl

/-- The second of two vectors sorted together, at a position. -/
theorem sort2_at {n : ℕ} {α β : Type} (cmp : α × β → α × β → BitVec 1) (x : (⟨1, ![n]⟩ : Shape).Idx → α)
    (y : (⟨1, ![n]⟩ : Shape).Idx → β) (p : Fin n) :
    (Host.sort2 ⟨1, ![n]⟩ 0 cmp x y).2 (ix1 p) = y (ix1 (sortedFrom (rel cmp fun k => (x (ix1 k), y (ix1 k))) p)) := by
  unfold Host.sort2
  simp only [Nat.lt_add_one, dite_true]
  simp [ofFin_eq]
  rfl

/-- The last of four vectors sorted together, at a position. -/
theorem sort4_at {n : ℕ} {α β γ δ : Type} (cmp : α × β × γ × δ → α × β × γ × δ → BitVec 1) (x : (⟨1, ![n]⟩ : Shape).Idx → α)
    (y : (⟨1, ![n]⟩ : Shape).Idx → β) (z : (⟨1, ![n]⟩ : Shape).Idx → γ) (w : (⟨1, ![n]⟩ : Shape).Idx → δ) (p : Fin n) :
    (Host.sort4 ⟨1, ![n]⟩ 0 cmp x y z w).2.2.2 (ix1 p)
      = w (ix1 (sortedFrom (rel cmp fun k => (x (ix1 k), y (ix1 k), z (ix1 k), w (ix1 k))) p)) := by
  unfold Host.sort4
  simp only [Nat.lt_add_one, dite_true]
  simp [ofFin_eq]
  rfl

/-- The positions of the greatest entries, at a place: the stable descending order's. -/
theorem topK_at {n t : ℕ} (x : (⟨1, ![n]⟩ : Shape).Idx → EReal) (h : (⟨1, ![n]⟩ : Shape).Slices (fun _ => 0) ⟨1, ![t]⟩) (p : Fin t) (hp : p.val < n) :
    (Host.topK (⟨1, ![t]⟩ : Shape) 0 (FloatOps.cmpfTotal (F := Ideal) (φ := .f32) .gt) x h).2 (ix1 p)
      = BitVec.ofNat 32 (sortedFrom (fun a b => decide (x (ix1 b) < x (ix1 a))) ⟨p.val, hp⟩).val := by
  unfold Host.topK
  have e : extractStridedSlice (⟨1, ![t]⟩ : Shape) (fun _ => 0) (Host.sort2 ⟨1, ![n]⟩ 0 (fun l r => FloatOps.cmpfTotal (F := Ideal) (φ := .f32) .gt l.1 r.1) x
      (fun i => if hd : 0 < (⟨1, ![n]⟩ : Shape).rank then iotaInDim (⟨1, ![n]⟩ : Shape) 32 ⟨0, hd⟩ i else 0#32)).2 h (ix1 p)
      = (Host.sort2 ⟨1, ![n]⟩ 0 (fun l r => FloatOps.cmpfTotal (F := Ideal) (φ := .f32) .gt l.1 r.1) x
      (fun i => if hd : 0 < (⟨1, ![n]⟩ : Shape).rank then iotaInDim (⟨1, ![n]⟩ : Shape) 32 ⟨0, hd⟩ i else 0#32)).2 (ix1 ⟨p.val, hp⟩) := by
    refine congrArg (Host.sort2 ⟨1, ![n]⟩ 0 _ x _).2 ?_
    funext a; fin_cases a
    apply Fin.ext
    show 0 + p.val = p.val
    omega
  refine e.trans ?_
  rw [sort2_at]
  show BitVec.ofNat 32 (sortedFrom _ _).val = _
  refine congrArg (fun R => BitVec.ofNat 32 (sortedFrom R (⟨p.val, hp⟩ : Fin n)).val) ?_
  funext a b
  simp only [rel, FloatOps.cmpfTotal, Ideal.cmpTotal, Ideal.cmp, CmpDirection.ordered]
  by_cases hh : x (ix1 b) < x (ix1 a) <;> simp [hh]

/-- The same with the entries named by a function of the position. -/
theorem topK_of {n t : ℕ} (x : (⟨1, ![n]⟩ : Shape).Idx → EReal) (h : (⟨1, ![n]⟩ : Shape).Slices (fun _ => 0) ⟨1, ![t]⟩) (p : Fin t) (hp : p.val < n)
    (G : Fin n → EReal) (hG : ∀ k, x (ix1 k) = G k) :
    (Host.topK (⟨1, ![t]⟩ : Shape) 0 (FloatOps.cmpfTotal (F := Ideal) (φ := .f32) .gt) x h).2 (ix1 p)
      = BitVec.ofNat 32 (sortedFrom (fun a b => decide (G b < G a)) ⟨p.val, hp⟩).val := by
  rw [topK_at x h p hp]
  simp only [hG]

/-- The word order. -/
theorem lt_i32 {a b : ℕ} (ha : a < 2 ^ 31) (hb : b < 2 ^ 31) :
    (Cert.KernelIdeal.comparator_i32_d0 (BitVec.ofNat 32 a) (BitVec.ofNat 32 b) = 1#1) ↔ a < b := by
  simp [Cert.KernelIdeal.comparator_i32_d0, IntOp.cmpi, BitVec.slt, Words.toInt_small ha, Words.toInt_small hb]
  by_cases h : a < b <;> simp [h]

/-- The reference's comparator: the first components' order. -/
theorem lt_f32 (l r : EReal × BitVec 32) :
    (Cert.ReferenceIdeal.comparator_f32_i32_d0 (F := Ideal) l r = 1#1) ↔ l.1 < r.1 := by
  have z : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have z0 : (FloatOps.ofBits (F := Ideal) .f32 0x00000000#32 : EReal) = 0 := Keys.lit_zero
    simp only [FloatOps.cmpf, Ideal.cmp, Scalar.select, z0]
    by_cases h : x = 0 <;> simp [h]
  simp only [Cert.ReferenceIdeal.comparator_f32_i32_d0]
  rw [z, z]
  simp only [FloatOps.cmpfTotal, Ideal.cmpTotal, Ideal.cmp, CmpDirection.ordered]
  by_cases h : l.1 < r.1 <;> simp [h]

/-- The kernel's comparator: the lexicographic order of the first three components. -/
theorem lt_lex (l r : EReal × EReal × EReal × BitVec 32) :
    (Cert.KernelIdeal.comparator_f32_f32_f32_i32_d0 (F := Ideal) l r = 1#1)
      ↔ (toLex (l.1, toLex (l.2.1, l.2.2.1)) : EReal ×ₗ EReal ×ₗ EReal) < toLex (r.1, toLex (r.2.1, r.2.2.1)) := by
  have z : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have z0 : (FloatOps.ofBits (F := Ideal) .f32 0x00000000#32 : EReal) = 0 := Keys.lit_zero
    simp only [FloatOps.cmpf, Ideal.cmp, Scalar.select, z0]
    by_cases h : x = 0 <;> simp [h]
  simp only [Cert.KernelIdeal.comparator_f32_f32_f32_i32_d0]
  rw [z, z, z, z, z, z]
  simp only [FloatOps.cmpfTotal, Ideal.cmpTotal, Ideal.cmp, CmpDirection.ordered, Prod.Lex.toLex_lt_toLex]
  by_cases h1 : l.1 < r.1 <;> by_cases h2 : l.1 = r.1 <;> by_cases h3 : l.2.1 < r.2.1 <;> by_cases h4 : l.2.1 = r.2.1 <;>
    by_cases h5 : l.2.2.1 < r.2.2.1 <;> simp [h1, h2, h3, h4, h5, IntOp.ori, IntOp.andi]

end Cert.Sorts
-- ==== Proof.KerSel.lean ====
/-
  The kernel program between its two calls: the table of nine numbers for each box, the thousand boxes of the greatest
  scores, and their order by bottom edge, as rows of the table.
-/
module
public import proofs.«01_k».proof.Proof.Gen.KernelIdeal.Frame
public import proofs.«01_k».proof.Proof.KerBox
public import proofs.«01_k».proof.Proof.Keys
public import proofs.«01_k».proof.Proof.Order
public import proofs.«01_k».proof.Proof.Sorts
public import Idealize.ShloMosaic.Lib.StableHlo.ReadAt
public import Idealize.ShloMosaic.Lib.Pointwise
public import Idealize.ShloMosaic.Lib.Routing.Ops
public import Idealize.ShloMosaic.Lib.Routing.OpsSet
public import Idealize.ShloMosaic.Lib.Routing.OpsOne
@[expose] public section
set_option maxRecDepth 16384
noncomputable section
namespace Cert.KerSel
open Idealize.ShloMosaic Idealize.ShloMosaic.TcCoe
open Cert.KernelIdeal Cert.KernelIdeal.Gen Cert.Spec Cert.Keys Cert.Words

section Pure

variable (sc : Fin 20736 → EReal) (de : Fin 20736 → Fin 4 → EReal)

/-- The nine numbers of box `n`: edges, area, finite score, extents and its own number. -/
def col (n : Fin 20736) (j : Fin 9) : EReal :=
  match j with
  | 0 => bx de n | 1 => byy de n | 2 => bx2 de n | 3 => by2 de n | 4 => bar de n | 5 => fsFin sc de n
  | 6 => bw de n | 7 => bh de n | 8 => word n.val

/-- The nine numbers of a padding row. -/
def pad (j : Fin 9) : EReal :=
  if j = 3 then lit 0xBF800000#32 else if j = 5 then lit 0xF149F2CA#32 else lit 0x00000000#32

/-- The selected boxes in the order of their numbers. -/
def mem (p : Fin 1000) : Fin 20736 := top sc de (sortedFrom (fun a b => decide (top sc de a < top sc de b)) p)

theorem mem_injective : Function.Injective (mem sc de) := by
  intro a b h
  exact sortedFrom_injective _ (top_injective sc de h)

theorem mem_range : Set.range (mem sc de) = Set.range (top sc de) := by
  ext n
  constructor
  · rintro ⟨p, rfl⟩; exact ⟨_, rfl⟩
  · rintro ⟨p, rfl⟩
    obtain ⟨q, hq⟩ := sortedFrom_surjective (fun a b => decide (top sc de a < top sc de b)) p
    exact ⟨q, by unfold mem; rw [hq]⟩

/-- A table of a thousand boxes' rows followed by padding rows. -/
def tab (f : Fin 1000 → Fin 20736) (p : Fin 1024) (j : Fin 9) : EReal :=
  if h : p.val < 1000 then col sc de (f ⟨p.val, h⟩) j else pad j

/-- The key by which the kernel sorts a row. -/
def rowKey (p : Fin 1024) : EReal ×ₗ EReal ×ₗ EReal :=
  toLex (-tab sc de (mem sc de) p 3, toLex (tab sc de (mem sc de) p 5, -tab sc de (mem sc de) p 8))

/-- The kernel's permutation of the rows. -/
def take (p : Fin 1024) : Fin 1024 := sortedFrom (fun a b => decide (rowKey sc de a < rowKey sc de b)) p

/-- The selected boxes have an enumeration in the keys' order, and the kernel's permuted rows are that enumeration's,
    followed by padding. -/
theorem exists_order : ∃ ρ : Fin 1000 → Fin 20736, StrictMono (key sc de ∘ ρ) ∧ Set.range ρ = Set.range (top sc de)
    ∧ ∀ p j, tab sc de (mem sc de) (take sc de p) j = tab sc de ρ p j := by
  obtain ⟨ρ, h1, h2, h3, h4⟩ := Order.padded_sort (mem sc de) (mem_injective sc de) (key sc de) (key_injective sc de) padKey
    (key_lt_pad sc de) (rowKey sc de) (fun i h => by unfold rowKey tab; rw [dif_pos h, dif_pos h, dif_pos h]; rfl)
    (fun i h => by
      have h' : ¬ i.val < 1000 := by omega
      unfold rowKey tab; rw [dif_neg h', dif_neg h', dif_neg h']; rfl)
    (fun a b => decide (rowKey sc de a < rowKey sc de b)) (fun a b => decide_eq_true_iff)
  refine ⟨ρ, h1, h2.trans (mem_range sc de), fun p j => ?_⟩
  by_cases hp : p.val < 1000
  · obtain ⟨h, e⟩ := h3 p hp
    unfold tab
    rw [dif_pos hp, e]
    exact dif_pos h
  · have := h4 p (by omega)
    unfold tab
    rw [dif_neg hp]
    exact dif_neg (by unfold take; omega)

/-- The selected boxes by bottom edge, greatest first. -/
def ord : Fin 1000 → Fin 20736 := (exists_order sc de).choose

theorem ord_mono : StrictMono (key sc de ∘ ord sc de) := (exists_order sc de).choose_spec.1

theorem ord_range : Set.range (ord sc de) = Set.range (top sc de) := (exists_order sc de).choose_spec.2.1

theorem tab_ord (p : Fin 1024) (j : Fin 9) : tab sc de (mem sc de) (take sc de p) j = tab sc de (ord sc de) p j :=
  (exists_order sc de).choose_spec.2.2 p j

end Pure

section Readings

variable (V : Valuation τ sig (Elt Ideal)) (sc : Fin 20736 → EReal) (de : Fin 20736 → Fin 4 → EReal)

/-- The eight outputs of the box call are the boxes of the tables. -/
structure Boxes : Prop where
  h0 : ∀ r l, V (Proc.devRef .tc main_v14_0) (ix2 r l) = bx de (KerBox.flat r l)
  h1 : ∀ r l, V (Proc.devRef .tc main_v14_1) (ix2 r l) = byy de (KerBox.flat r l)
  h2 : ∀ r l, V (Proc.devRef .tc main_v14_2) (ix2 r l) = bw de (KerBox.flat r l)
  h3 : ∀ r l, V (Proc.devRef .tc main_v14_3) (ix2 r l) = bh de (KerBox.flat r l)
  h4 : ∀ r l, V (Proc.devRef .tc main_v14_4) (ix2 r l) = bx2 de (KerBox.flat r l)
  h5 : ∀ r l, V (Proc.devRef .tc main_v14_5) (ix2 r l) = by2 de (KerBox.flat r l)
  h6 : ∀ r l, V (Proc.devRef .tc main_v14_6) (ix2 r l) = bar de (KerBox.flat r l)
  h7 : ∀ r l, V (Proc.devRef .tc main_v14_7) (ix2 r l) = fs sc de (KerBox.flat r l)

theorem flat_div (n : Fin 20736) : KerBox.flat ⟨n.val / 128, by omega⟩ ⟨n.val % 128, by omega⟩ = n := by
  apply Fin.ext; simp only [KerBox.flat]; omega

variable {V sc de}

/-- The table's entries. -/
theorem v29 (h : Boxes V sc de) (n : Fin 20736) (j : Fin 9) :
    StableHlo.after hostOps1 V (Proc.devRef .tc main_v29) (ix2 n j) = col sc de n j := by
  fin_cases j
  · show StableHlo.after hostOps1 V (Proc.devRef .tc main_v29) (ix2 n 0) = bx de n
    after_reads_at; unfold StableHlo.upto; after_reads_at
    rw [h.h0, flat_div]
  · show StableHlo.after hostOps1 V (Proc.devRef .tc main_v29) (ix2 n 1) = byy de n
    after_reads_at; unfold StableHlo.upto; after_reads_at
    rw [h.h1, flat_div]
  · show StableHlo.after hostOps1 V (Proc.devRef .tc main_v29) (ix2 n 2) = bx2 de n
    after_reads_at; unfold StableHlo.upto; after_reads_at
    rw [h.h4, flat_div]
  · show StableHlo.after hostOps1 V (Proc.devRef .tc main_v29) (ix2 n 3) = by2 de n
    after_reads_at; unfold StableHlo.upto; after_reads_at
    rw [h.h5, flat_div]
  · show StableHlo.after hostOps1 V (Proc.devRef .tc main_v29) (ix2 n 4) = bar de n
    after_reads_at; unfold StableHlo.upto; after_reads_at
    rw [h.h6, flat_div]
  · show StableHlo.after hostOps1 V (Proc.devRef .tc main_v29) (ix2 n 5) = fsFin sc de n
    after_reads_at; unfold StableHlo.upto; after_reads_at
    rw [h.h7, flat_div]; rfl
  · show StableHlo.after hostOps1 V (Proc.devRef .tc main_v29) (ix2 n 6) = bw de n
    after_reads_at; unfold StableHlo.upto; after_reads_at
    rw [h.h2, flat_div]
  · show StableHlo.after hostOps1 V (Proc.devRef .tc main_v29) (ix2 n 7) = bh de n
    after_reads_at; unfold StableHlo.upto; after_reads_at
    rw [h.h3, flat_div]
  · show StableHlo.after hostOps1 V (Proc.devRef .tc main_v29) (ix2 n 8) = word n.val
    after_reads_at; unfold StableHlo.upto; after_reads_at
    have e : n.val / 128 * 128 + n.val % 128 = n.val := by omega
    simp only [e]

/-- The positions of the greatest scores. -/
theorem indices (h : Boxes V sc de) (p : Fin 1000) :
    StableHlo.after hostOps1 V (Proc.devRef .tc main_indices) (ix1 p) = BitVec.ofNat 32 (top sc de p).val := by
  after_reads_at
  unfold top topAll
  refine Sorts.topK_of _ _ p (by omega) (fs sc de) fun k => ?_
  refine (h.h7 _ _).trans ?_
  exact congrArg (fs sc de) (flat_div k)

/-- The positions in increasing order. -/
theorem v31 (h : ∀ p : Fin 1000, V (Proc.devRef .tc main_indices) (ix1 p) = BitVec.ofNat 32 (top sc de p).val) (p : Fin 1000) :
    StableHlo.after hostOps1_1 V (Proc.devRef .tc main_v31) (ix1 p) = BitVec.ofNat 32 (mem sc de p).val := by
  after_reads_at
  refine (Sorts.sort_at _ _ p).trans ?_
  rw [h]
  refine congrArg (fun R => BitVec.ofNat 32 (top sc de (sortedFrom R p)).val) ?_
  funext a b
  apply Bool.eq_iff_iff.mpr
  simp only [Sorts.rel, beq_iff_eq, decide_eq_true_eq]
  rw [h, h, Sorts.lt_i32 (by omega) (by omega)]
  rfl

/-- The padding rows, one column at a time set over zeros. -/
theorem set_col (x : S24x9.Idx → EReal) (idx : IVec S1 32) (u : S24.Idx → EReal) (k : Fin 9) (v : EReal)
    (hidx : (idx (ix1 0)).toInt = (k.val : ℤ)) (hu : ∀ i, u i = v) (p : Fin 24) (j : Fin 9) :
    Host.scatter scatter_S24x9_S1_S24_0_1_1_0 (fun _ b => b) x idx u (ix2 p j) = if j = k then v else x (ix2 p j) := by
  by_cases hj : j = k
  · rw [if_pos hj]
    exact Routing.scatter_set_hit _ x idx u (ix2 p j) v (fun i _ => hu i) (ix1 p)
      ((Routing.lands_col (A := 24) (N := 9) scatter_S24x9_S1_S24_0_1_1_0 rfl rfl idx k hidx p p j).mpr ⟨rfl, hj⟩)
  · rw [if_neg hj]
    refine Routing.scatter_set_miss _ x idx u (ix2 p j) fun i hi => ?_
    obtain ⟨q, rfl⟩ : ∃ q : Fin 24, i = ix1 q := ⟨i 0, by funext a; fin_cases a; rfl⟩
    exact hj ((Routing.lands_col (A := 24) (N := 9) scatter_S24x9_S1_S24_0_1_1_0 rfl rfl idx k hidx q p j).mp hi).2

/-- The rows before the last sort: the selected boxes by number, then padding. -/
theorem v46 (h29 : ∀ n j, V (Proc.devRef .tc main_v29) (ix2 n j) = col sc de n j)
    (h31 : ∀ p : Fin 1000, V (Proc.devRef .tc main_v31) (ix1 p) = BitVec.ofNat 32 (mem sc de p).val) (p : Fin 1024) (j : Fin 9) :
    StableHlo.after ((hostOps1_2 (F := Ideal)).take 22) V (Proc.devRef .tc main_v46) (ix2 p j) = tab sc de (mem sc de) p j := by
  after_reads_at
  unfold tab
  split
  · rename_i hp
    refine (Routing.gather_row (nb := 20736) (B := 9) (n := 1000) gather_S20736x9_S1000x1_S1000x9_1_0_n_n_0_1_19 rfl rfl rfl rfl rfl _ _ _ j (mem sc de ⟨p.val, hp⟩) ?_ (by norm_num)).trans (h29 _ _)
    pointwise
    simp only [h31]
    exact wrap_word (by omega) _
  · refine (set_col _ _ _ 3 (lit 0xBF800000#32) ?_ ?_ _ j).trans ?_
    · rfl
    · intro i; rfl
    unfold pad
    by_cases h3 : j = 3
    · subst h3; rfl
    rw [if_neg h3, if_neg h3]
    refine (set_col _ _ _ 5 (lit 0xF149F2CA#32) ?_ ?_ _ j).trans ?_
    · rfl
    · intro i; rfl
    by_cases h5 : j = 5
    · subst h5; rfl
    rw [if_neg h5, if_neg h5]
    rfl

/-- The kernel's permutation, as words. -/
theorem v56 (h46 : ∀ p j, V (Proc.devRef .tc main_v46) (ix2 p j) = tab sc de (mem sc de) p j) (p : Fin 1024) :
    StableHlo.after (((hostOps1_2 (F := Ideal)).take 35).drop 22) V (Proc.devRef .tc main_v56_3) (ix1 p)
      = BitVec.ofNat 32 (take sc de p).val := by
  after_reads_at
  refine (Sorts.sort4_at _ _ _ _ _ p).trans ?_
  refine congrArg (fun R => BitVec.ofNat 32 (sortedFrom R p).val) ?_
  funext a b
  apply Bool.eq_iff_iff.mpr
  simp only [Sorts.rel, beq_iff_eq, decide_eq_true_eq]
  rw [Sorts.lt_lex]
  show (toLex (Neg.neg (α := EReal) (V (Proc.devRef .tc main_v46) (ix2 a 3)), toLex (V (Proc.devRef .tc main_v46) (ix2 a 5), Neg.neg (α := EReal) (V (Proc.devRef .tc main_v46) (ix2 a 8)))) : EReal ×ₗ EReal ×ₗ EReal)
      < toLex (Neg.neg (α := EReal) (V (Proc.devRef .tc main_v46) (ix2 b 3)), toLex (V (Proc.devRef .tc main_v46) (ix2 b 5), Neg.neg (α := EReal) (V (Proc.devRef .tc main_v46) (ix2 b 8)))) ↔ _
  simp only [h46]
  rfl

/-- The gathered rows. -/
theorem rows (h46 : ∀ p j, V (Proc.devRef .tc main_v46) (ix2 p j) = tab sc de (mem sc de) p j)
    (h56 : ∀ p : Fin 1024, V (Proc.devRef .tc main_v56_3) (ix1 p) = BitVec.ofNat 32 (take sc de p).val) (p : Fin 1024) (j : Fin 9)
    (idx : IVec S1024x1 32) (hidx : ∀ q : Fin 1024, idx (ix2 q 0) = Scalar.select (IntOp.cmpi .slt (V (Proc.devRef .tc main_v56_3) (ix1 q)) 0#32)
      (IntOp.addi (V (Proc.devRef .tc main_v56_3) (ix1 q)) 1024#32) (V (Proc.devRef .tc main_v56_3) (ix1 q))) :
    Host.gather gather_S1024x9_S1024x1_S1024x9_1_0_n_n_0_1_19 (V (Proc.devRef .tc main_v46)) idx (ix2 p j) = tab sc de (ord sc de) p j := by
  refine (Routing.gather_row (nb := 1024) (B := 9) (n := 1024) gather_S1024x9_S1024x1_S1024x9_1_0_n_n_0_1_19 rfl rfl rfl rfl rfl _ idx p j (take sc de p) ?_ (by norm_num)).trans
    ((h46 _ _).trans (tab_ord sc de p j))
  refine (hidx p).trans ?_
  rw [h56]
  exact wrap_word (by omega) _

/-- The sorted rows, eight columns. -/
theorem v64 (h46 : ∀ p j, V (Proc.devRef .tc main_v46) (ix2 p j) = tab sc de (mem sc de) p j)
    (h56 : ∀ p : Fin 1024, V (Proc.devRef .tc main_v56_3) (ix1 p) = BitVec.ofNat 32 (take sc de p).val) (p : Fin 1024) (j : Fin 8) :
    StableHlo.after ((hostOps1_2 (F := Ideal)).drop 35) V (Proc.devRef .tc main_v64) (ix2 p j) = tab sc de (ord sc de) p ⟨j.val, by omega⟩ := by
  after_reads_at
  refine Eq.trans (congrArg _ ?_) (rows h46 h56 p ⟨j.val, by omega⟩ _ fun q => by pointwise)
  funext a; fin_cases a <;> apply Fin.ext <;> simp

/-- The sorted rows transposed. -/
theorem v65 (h46 : ∀ p j, V (Proc.devRef .tc main_v46) (ix2 p j) = tab sc de (mem sc de) p j)
    (h56 : ∀ p : Fin 1024, V (Proc.devRef .tc main_v56_3) (ix1 p) = BitVec.ofNat 32 (take sc de p).val) (p : Fin 1024) (j : Fin 8) :
    StableHlo.after ((hostOps1_2 (F := Ideal)).drop 35) V (Proc.devRef .tc main_v65) (ix2 j p) = tab sc de (ord sc de) p ⟨j.val, by omega⟩ := by
  after_reads_at
  refine Eq.trans (congrArg _ ?_) (rows h46 h56 p ⟨j.val, by omega⟩ _ fun q => by pointwise)
  funext a; fin_cases a <;> apply Fin.ext <;> simp

/-- The four numbers of each sorted row that the result holds. -/
theorem v68 (h46 : ∀ p j, V (Proc.devRef .tc main_v46) (ix2 p j) = tab sc de (mem sc de) p j)
    (h56 : ∀ p : Fin 1024, V (Proc.devRef .tc main_v56_3) (ix1 p) = BitVec.ofNat 32 (take sc de p).val) (p : Fin 1024) (c : Fin 4) :
    StableHlo.after ((hostOps1_2 (F := Ideal)).drop 35) V (Proc.devRef .tc main_v68) (ix2 p c)
      = tab sc de (ord sc de) p (if c.val < 2 then ⟨c.val, by omega⟩ else ⟨c.val + 4, by omega⟩) := by
  fin_cases c
  · show StableHlo.after ((hostOps1_2 (F := Ideal)).drop 35) V (Proc.devRef .tc main_v68) (ix2 p 0) = tab sc de (ord sc de) p 0
    after_reads_at
    exact rows h46 h56 p 0 _ fun q => by pointwise
  · show StableHlo.after ((hostOps1_2 (F := Ideal)).drop 35) V (Proc.devRef .tc main_v68) (ix2 p 1) = tab sc de (ord sc de) p 1
    after_reads_at
    exact rows h46 h56 p 1 _ fun q => by pointwise
  · show StableHlo.after ((hostOps1_2 (F := Ideal)).drop 35) V (Proc.devRef .tc main_v68) (ix2 p 2) = tab sc de (ord sc de) p 6
    after_reads_at
    exact rows h46 h56 p 6 _ fun q => by pointwise
  · show StableHlo.after ((hostOps1_2 (F := Ideal)).drop 35) V (Proc.devRef .tc main_v68) (ix2 p 3) = tab sc de (ord sc de) p 7
    after_reads_at
    exact rows h46 h56 p 7 _ fun q => by pointwise

end Readings

end Cert.KerSel
-- ==== Proof.Nms.lean ====
/-
  Greedy suppression over a list of boxes, as plain mathematics: boxes are rows of numbers, a round removes the boxes that
  overlap the round's box if that box is still there, and the survivors take the places of the result in turn.
-/
module

public import proofs.«01_k».proof.Proof.Spec
public import proofs.«01_k».proof.Proof.Keys

@[expose] public section

noncomputable section

namespace Cert.Nms

open Idealize.ShloMosaic Cert.Spec

variable (box : ℕ → Fin 9 → EReal)

/-- One side of two boxes' overlap, a cell's width added, at least zero. -/
def side (a b : EReal) : EReal := max (a - b + 1) 0

/-- The overlap of boxes `i` and `j` relative to the area of `j`. -/
def ov (i j : ℕ) : EReal :=
  Ideal.div (side (min (box i 2) (box j 2)) (max (box i 0) (box j 0)) * side (min (box i 3) (box j 3)) (max (box i 1) (box j 1)))
    (max (box j 4) (lit 0x358637BD#32))

/-- Whether box `j` is there after `k` rounds. -/
def km : ℕ → ℕ → Bool
  | 0, j => decide (0 ≤ box j 5)
  | k + 1, j => km k j && !(decide (lit 0x3F333333#32 ≤ ov box k j) && km k k && decide (j ≠ k))

/-- Whether box `j` survives. -/
def kept (j : ℕ) : Bool := km box 1000 j

/-- The survivors up to `p`. -/
def count (p : ℕ) : ℕ := ((Finset.range (p + 1)).filter fun q => kept box q = true).card

/-- The result's place `r`: the `r`-th survivor's value, or zero. -/
def out (v : ℕ → EReal) (r : ℕ) : EReal :=
  ∑ p ∈ Finset.range 1000, if kept box p = true ∧ count box p = r + 1 then v p else 0

/-- The survivors among the `s` boxes up to `p`. -/
def win (f : ℕ → Bool) (s p : ℕ) : ℕ := ((Finset.range (p + 1)).filter fun q => f q = true ∧ p < q + s).card

theorem win_one (f : ℕ → Bool) (p : ℕ) : win f 1 p = if f p = true then 1 else 0 := by
  unfold win
  by_cases h : f p = true
  · rw [if_pos h, Finset.card_eq_one]
    refine ⟨p, ?_⟩
    ext q
    simp only [Finset.mem_filter, Finset.mem_range, Finset.mem_singleton]
    constructor
    · rintro ⟨h1, -, h2⟩; omega
    · rintro rfl; exact ⟨by omega, h, by omega⟩
  · rw [if_neg h, Finset.card_eq_zero]
    ext q
    simp only [Finset.mem_filter, Finset.mem_range, Finset.notMem_empty, iff_false]
    rintro ⟨h1, h2, h3⟩
    have : q = p := by omega
    exact h (this ▸ h2)

/-- Doubling the window adds the window before it. -/
theorem win_double (f : ℕ → Bool) (s p : ℕ) :
    win f (2 * s) p = win f s p + if s ≤ p then win f s (p - s) else 0 := by
  unfold win
  by_cases h : s ≤ p
  · rw [if_pos h, ← Finset.card_union_of_disjoint]
    · congr 1
      ext q
      simp only [Finset.mem_filter, Finset.mem_range, Finset.mem_union]
      constructor
      · rintro ⟨h1, h2, h3⟩
        by_cases h4 : p < q + s
        · exact Or.inl ⟨h1, h2, h4⟩
        · exact Or.inr ⟨by omega, h2, by omega⟩
      · rintro (⟨h1, h2, h3⟩ | ⟨h1, h2, h3⟩) <;> exact ⟨by omega, h2, by omega⟩
    · rw [Finset.disjoint_left]
      intro q
      simp only [Finset.mem_filter, Finset.mem_range]
      rintro ⟨h1, h2, h3⟩ ⟨h4, h5, h6⟩
      omega
  · rw [if_neg h]
    refine (congrArg Finset.card ?_).trans (Nat.add_zero _).symm
    ext q
    simp only [Finset.mem_filter, Finset.mem_range]
    constructor
    · rintro ⟨h1, h2, h3⟩; exact ⟨h1, h2, by omega⟩
    · rintro ⟨h1, h2, h3⟩; exact ⟨h1, h2, by omega⟩

theorem win_all (f : ℕ → Bool) (s p : ℕ) (h : p < s) : win f s p = ((Finset.range (p + 1)).filter fun q => f q = true).card := by
  unfold win
  congr 1
  ext q
  simp only [Finset.mem_filter, Finset.mem_range]
  constructor
  · rintro ⟨h1, h2, h3⟩; exact ⟨h1, h2⟩
  · rintro ⟨h1, h2⟩; exact ⟨h1, h2, by omega⟩

theorem count_pos (p : ℕ) (h : kept box p = true) : 1 ≤ count box p := by
  unfold count
  rw [Nat.one_le_iff_ne_zero, ← Nat.pos_iff_ne_zero, Finset.card_pos]
  exact ⟨p, by simp [h]⟩

theorem count_le (p : ℕ) : count box p ≤ p + 1 := by
  unfold count
  exact (Finset.card_filter_le _ _).trans (by simp)

/-- A box whose score is below zero is never there. -/
theorem km_false (j : ℕ) (h : box j 5 < 0) (k : ℕ) : km box k j = false := by
  induction k with
  | zero => exact decide_eq_false (not_le.mpr h)
  | succ k ih => simp [km, ih]

/-- Rows past the thousandth that hold no box add nothing to a sum over the survivors. -/
theorem out_eq (v : ℕ → EReal) (r N : ℕ) (hN : 1000 ≤ N) (h : ∀ j, 1000 ≤ j → box j 5 < 0) :
    out box v r = ∑ p ∈ Finset.range N, if kept box p = true ∧ count box p = r + 1 then v p else 0 := by
  unfold out
  refine Finset.sum_subset (fun p hp => by simp only [Finset.mem_range] at *; omega) fun p _ hp => ?_
  rw [if_neg]
  rintro ⟨h1, -⟩
  have := km_false box p (h p (by simpa using hp)) 1000
  unfold kept at h1
  rw [this] at h1
  exact Bool.noConfusion h1

end Cert.Nms
-- ==== Proof.Result.lean ====
/-
  The problem's result, as a function of the scores and the deltas.
-/
module

public import proofs.«01_k».proof.Proof.KerSel
public import proofs.«01_k».proof.Proof.Nms

@[expose] public section

set_option maxRecDepth 16384

noncomputable section

namespace Cert.Result

open Idealize.ShloMosaic Cert.Spec Cert.KerSel

variable (sc : Fin 20736 → EReal) (de : Fin 20736 → Fin 4 → EReal)

/-- The rows the suppression works on: the selected boxes in order, then padding. -/
def rowsOf (p : ℕ) (j : Fin 9) : EReal := if h : p < 1000 then col sc de (ord sc de ⟨p, h⟩) j else pad j

theorem tab_rows (p : Fin 1024) (j : Fin 9) : tab sc de (ord sc de) p j = rowsOf sc de p.val j := rfl

theorem rows_neg (j : ℕ) (h : 1000 ≤ j) : rowsOf sc de j 5 < 0 := by
  unfold rowsOf
  rw [dif_neg (by omega)]
  exact Keys.lit_low

/-- The column of the rows that the result's column `k` holds. -/
def outCol (k : Fin 4) : Fin 9 := if k.val < 2 then ⟨k.val, by omega⟩ else ⟨k.val + 4, by omega⟩

/-- The problem's result: place `r` holds the `r`-th surviving box. -/
def val (r : ℕ) (k : Fin 4) : EReal := Nms.out (rowsOf sc de) (fun p => rowsOf sc de p (outCol k)) r

end Cert.Result
-- ==== Proof.KerPay.lean ====
/-
  The suppression call's vector steps at an index: the pairwise overlaps, the initial marks, one round, the running count
  of the survivors and the selection rows.
-/
module

public import proofs.«01_k».proof.Proof.Gen.KernelIdeal.Frame
public import proofs.«01_k».proof.Proof.Nms
public import proofs.«01_k».proof.Proof.Words
public import proofs.«01_k».proof.Proof.Keys
public import Idealize.ShloMosaic.Lib.Pointwise

@[expose] public section

set_option maxRecDepth 16384

noncomputable section

namespace Cert.KerPay

open Idealize.ShloMosaic Idealize.ShloMosaic.TcCoe
open Cert.KernelIdeal Cert.KernelIdeal.Gen Cert.Spec Cert.Nms

/-- The relative overlap of two boxes given by their numbers. -/
def pairOv (a0 a1 a2 a3 b0 b1 b2 b3 b4 : EReal) : EReal :=
  Ideal.div (side (min a2 b2) (max a0 b0) * side (min a3 b3) (max a1 b1)) (max b4 (lit 0x358637BD#32))

theorem one_sub_one : (1 : EReal) - 1 = 0 := by
  have h := EReal.coe_sub 1 1
  rw [sub_self] at h
  exact h.symm

variable (v1 v3 v5 v7 v9 : FVec Ideal S1x1024 .f32) (w : Vec Ideal S128x8 .f32) (i : Fin 128) (j : Fin 1024)

theorem row2 (v : Vec Ideal S1x1024 .f32) : k1_pay2 v (ix2 0 j) = v (ix2 0 j) := by pointwise [k1_pay2]
theorem row3 (v : Vec Ideal S1x1024 .f32) : k1_pay3 v (ix2 0 j) = v (ix2 0 j) := by pointwise [k1_pay3]
theorem row4 (v : Vec Ideal S1x1024 .f32) : k1_pay4 v (ix2 0 j) = v (ix2 0 j) := by pointwise [k1_pay4]
theorem row5 (v : Vec Ideal S1x1024 .f32) : k1_pay5 v (ix2 0 j) = v (ix2 0 j) := by pointwise [k1_pay5]
theorem row6 (v : Vec Ideal S1x1024 .f32) : k1_pay6 v (ix2 0 j) = v (ix2 0 j) := by pointwise [k1_pay6]
theorem row7 (v : Vec Ideal S1x1024 .f32) : k1_pay7 v (ix2 0 j) = v (ix2 0 j) := by pointwise [k1_pay7]

/-- The overlaps of block 0. -/
theorem blk0 (u1 u3 u5 u7 : Vec Ideal S1x1024 .f32) : k1_pay9 v9 (k1_pay8 u1 u3 u5 u7 w) kernelRun1_A.sl.cst_11 (ix2 i j)
    = pairOv (w (ix2 i 0)) (w (ix2 i 1)) (w (ix2 i 2)) (w (ix2 i 3)) (u1 (ix2 0 j)) (u3 (ix2 0 j)) (u5 (ix2 0 j)) (u7 (ix2 0 j)) (v9 (ix2 0 j)) := by
  pointwise [k1_pay9, k1_pay8, k1_pay2, k1_pay3, k1_pay4, k1_pay5]
  rfl

/-- The overlaps of block 1. -/
theorem blk1 : k1_pay10 v1 v3 v5 v7 v9 w (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay10]
  rfl

/-- The overlaps of block 2. -/
theorem blk2 : k1_pay12 v1 v3 v5 v7 v9 (k1_pay11 w) (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay12, k1_pay11]
  rfl

/-- The overlaps of block 3. -/
theorem blk3 : k1_pay18 v7 v9 (k1_pay14 v1 w) (k1_pay15 v3 w) (k1_pay16 v5 w) (k1_pay17 w) (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay18, k1_pay14, k1_pay15, k1_pay16, k1_pay17, k1_pay13]
  rfl

/-- The overlaps of block 4. -/
theorem blk4 : k1_pay22 v9 (k1_pay20 v1 v5 w) (k1_pay21 v3 v7 w) kernelRun1_A.sl.cst_42 (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay22, k1_pay20, k1_pay21, k1_pay19]
  unfold kernelRun1_A.sl.cst_42
  rw [show FloatOps.ofBits (F := Ideal) FTy.f32 0#32 = (0 : EReal) from Keys.lit_zero]
  rfl

/-- The overlaps of block 5. -/
theorem blk5 : k1_pay23 v1 v3 v5 v7 v9 w (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay23]
  rfl

/-- The overlaps of block 6. -/
theorem blk6 : k1_pay24 v1 v3 v5 v7 v9 w (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay24]
  rfl

/-- The overlaps of block 7. -/
theorem blk7 : k1_pay30 v5 v7 v9 (k1_pay26 w) (k1_pay27 w) (k1_pay28 v1 w) (k1_pay29 v3 w) (ix2 i j)
    = pairOv (w (ix2 i 0)) (w (ix2 i 1)) (w (ix2 i 2)) (w (ix2 i 3)) (v1 (ix2 0 j)) (v3 (ix2 0 j)) (v5 (ix2 0 j)) (v7 (ix2 0 j)) (v9 (ix2 0 j)) := by
  pointwise [k1_pay30, k1_pay26, k1_pay27, k1_pay28, k1_pay29, k1_pay25]
  rfl

/-- The initial marks. -/
theorem marks (v : FVec Ideal S1x1024 .f32) : k1_pay31 v (ix2 0 j) = if decide (0 ≤ v (ix2 0 j)) = true then 1 else 0 := by
  pointwise [k1_pay31]
  simp only [decide_eq_true_eq]

/-- One round on marks that are one or zero. -/
theorem round (t : Fin k1_t1_loop.trips) (a u : FVec Ideal S1x1024 .f32) (f : ℕ → Bool)
    (ha : ∀ l : Fin 1024, a (ix2 0 l) = if f l.val = true then 1 else 0) :
    k1_pay32 t a u (ix2 0 j) = if (f j.val && !(decide (lit 0x3F333333#32 ≤ u (ix2 0 j)) && f t.val && decide (j.val ≠ t.val))) = true then 1 else 0 := by
  have ht : t.val < 1000 := Nat.lt_of_lt_of_le t.isLt k1_t1_abs.2.1
  have hiv : Scf.iv 0#32 1#32 t.val = BitVec.ofNat 32 t.val := by
    simp [Scf.iv]
  have hsum : (∑ l : Fin 1024, Scalar.select (IntOp.cmpi .eq (BitVec.ofNat 32 l.val) (BitVec.ofNat 32 t.val)) (a (ix2 0 l)) 0) = if f t.val = true then (1 : EReal) else 0 := by
    rw [Finset.sum_eq_single (⟨t.val, by omega⟩ : Fin 1024)]
    · rw [Words.eq_word (by omega) (by omega), ha]
      simp [Scalar.select]
    · intro l _ hl
      have : ¬ l.val = t.val := fun e => hl (Fin.ext e)
      rw [Words.eq_word (by omega) (by omega)]
      simp [Scalar.select, this]
    · intro h; exact absurd (Finset.mem_univ _) h
  pointwise [k1_pay32]
  rw [hiv]
  simp only [hsum, Finset.univ_unique, Finset.sum_singleton]
  rw [ha]
  have hne : IntOp.cmpi .ne (BitVec.ofNat 32 j.val) (BitVec.ofNat 32 t.val) = BitVec.ofBool (decide (j.val ≠ t.val)) := by
    have := j.isLt
    exact Words.ne_word (by omega) (by omega)
  rw [hne]
  cases hf : f j.val <;> cases hg : f t.val <;> by_cases h1 : lit 0x3F333333#32 ≤ u (ix2 0 j) <;> by_cases h2 : j.val = t.val <;>
    simp [h1, h2, IntOp.andi, Scalar.select, one_sub_one]

end Cert.KerPay
-- ==== Proof.KerCount.lean ====
/-
  The running count of the survivors, by doubling shifts, and the selection rows built from it.
-/
module

public import proofs.«01_k».proof.Proof.KerPay

@[expose] public section

set_option maxRecDepth 16384

noncomputable section

namespace Cert.KerCount

open Idealize.ShloMosaic Idealize.ShloMosaic.TcCoe
open Cert.KernelIdeal Cert.KernelIdeal.Gen Cert.Spec Cert.Nms

/-- A natural number as an ideal float. -/
def nat (n : ℕ) : EReal := ((n : ℝ) : EReal)

theorem nat_add (a b : ℕ) : nat (a + b) = nat a + nat b := by
  unfold nat; rw [Nat.cast_add, EReal.coe_add]

/-- The sum of a window and the window shifted by its width is the window of the double width. -/
theorem doubled (f : ℕ → Bool) (s : ℕ) (x : Fin 1024 → EReal) (hx : ∀ l : Fin 1024, x l = nat (win f s l.val)) (j : Fin 1024) :
    (x j + if h : j.val < s then 0 else x ⟨j.val - s, by omega⟩) = nat (win f (2 * s) j.val) := by
  rw [win_double, nat_add, hx j]
  congr 1
  by_cases h : j.val < s
  · rw [dif_pos h, if_neg (by omega)]; simp [nat]
  · rw [dif_neg h, if_pos (by omega), hx]

variable (f : ℕ → Bool) (x : FVec Ideal S1x1024 .f32) (j : Fin 1024)

/-- The first two doublings. -/
theorem pay33 (hx : ∀ l : Fin 1024, x (ix2 0 l) = nat (win f 1 l.val)) : k1_pay33 x (ix2 0 j) = nat (win f 4 j.val) := by
  have h1 := fun l => doubled f 1 (fun l => x (ix2 0 l)) hx l
  have h2 := doubled f 2 _ h1 j
  pointwise [k1_pay33]
  refine Eq.trans ?_ h2
  rfl

/-- The vector plus itself shifted by 4 places. -/
def sh4 (x : FVec Ideal S1x1024 .f32) : FVec Ideal S1x1024 .f32 :=
  addf x (concatenate S1x1024 1 [⟨S1x4, broadcast S1x4 (Scalar.ofBits .f32 0x00000000#32)⟩, ⟨S1x1020, extractStridedSlice S1x1020 ![0, 0] x slices_S1x1024_o0_0_S1x1020⟩] concatenates_S1x4_S1x1020_S1x1024_d1)

theorem sh4_at (hx : ∀ l : Fin 1024, x (ix2 0 l) = nat (win f 4 l.val)) : sh4 x (ix2 0 j) = nat (win f 8 j.val) := by
  have h1 := doubled f 4 (fun l => x (ix2 0 l)) hx j
  pointwise [sh4]
  exact h1

/-- The vector plus itself shifted by 8 places. -/
def sh8 (x : FVec Ideal S1x1024 .f32) : FVec Ideal S1x1024 .f32 :=
  addf x (concatenate S1x1024 1 [⟨S1x8, broadcast S1x8 (Scalar.ofBits .f32 0x00000000#32)⟩, ⟨S1x1016, extractStridedSlice S1x1016 ![0, 0] x slices_S1x1024_o0_0_S1x1016⟩] concatenates_S1x8_S1x1016_S1x1024_d1)

theorem sh8_at (hx : ∀ l : Fin 1024, x (ix2 0 l) = nat (win f 8 l.val)) : sh8 x (ix2 0 j) = nat (win f 16 j.val) := by
  have h1 := doubled f 8 (fun l => x (ix2 0 l)) hx j
  pointwise [sh8]
  exact h1

/-- The vector plus itself shifted by 16 places. -/
def sh16 (x : FVec Ideal S1x1024 .f32) : FVec Ideal S1x1024 .f32 :=
  addf x (concatenate S1x1024 1 [⟨S1x16, broadcast S1x16 (Scalar.ofBits .f32 0x00000000#32)⟩, ⟨S1x1008, extractStridedSlice S1x1008 ![0, 0] x slices_S1x1024_o0_0_S1x1008⟩] concatenates_S1x16_S1x1008_S1x1024_d1)

theorem sh16_at (hx : ∀ l : Fin 1024, x (ix2 0 l) = nat (win f 16 l.val)) : sh16 x (ix2 0 j) = nat (win f 32 j.val) := by
  have h1 := doubled f 16 (fun l => x (ix2 0 l)) hx j
  pointwise [sh16]
  exact h1

/-- The vector plus itself shifted by 32 places. -/
def sh32 (x : FVec Ideal S1x1024 .f32) : FVec Ideal S1x1024 .f32 :=
  addf x (concatenate S1x1024 1 [⟨S1x32, broadcast S1x32 (Scalar.ofBits .f32 0x00000000#32)⟩, ⟨S1x992, extractStridedSlice S1x992 ![0, 0] x slices_S1x1024_o0_0_S1x992⟩] concatenates_S1x32_S1x992_S1x1024_d1)

theorem sh32_at (hx : ∀ l : Fin 1024, x (ix2 0 l) = nat (win f 32 l.val)) : sh32 x (ix2 0 j) = nat (win f 64 j.val) := by
  have h1 := doubled f 32 (fun l => x (ix2 0 l)) hx j
  pointwise [sh32]
  exact h1

/-- The vector plus itself shifted by 64 places. -/
def sh64 (x : FVec Ideal S1x1024 .f32) : FVec Ideal S1x1024 .f32 :=
  addf x (concatenate S1x1024 1 [⟨S1x64, broadcast S1x64 (Scalar.ofBits .f32 0x00000000#32)⟩, ⟨S1x960, extractStridedSlice S1x960 ![0, 0] x slices_S1x1024_o0_0_S1x960⟩] concatenates_S1x64_S1x960_S1x1024_d1)

theorem sh64_at (hx : ∀ l : Fin 1024, x (ix2 0 l) = nat (win f 64 l.val)) : sh64 x (ix2 0 j) = nat (win f 128 j.val) := by
  have h1 := doubled f 64 (fun l => x (ix2 0 l)) hx j
  pointwise [sh64]
  exact h1

/-- The vector plus itself shifted by 128 places. -/
def sh128 (x : FVec Ideal S1x1024 .f32) : FVec Ideal S1x1024 .f32 :=
  addf x (concatenate S1x1024 1 [⟨S1x128, broadcast S1x128 (Scalar.ofBits .f32 0x00000000#32)⟩, ⟨S1x896, extractStridedSlice S1x896 ![0, 0] x slices_S1x1024_o0_0_S1x896⟩] concatenates_S1x128_S1x896_S1x1024_d1)

theorem sh128_at (hx : ∀ l : Fin 1024, x (ix2 0 l) = nat (win f 128 l.val)) : sh128 x (ix2 0 j) = nat (win f 256 j.val) := by
  have h1 := doubled f 128 (fun l => x (ix2 0 l)) hx j
  pointwise [sh128]
  exact h1

/-- The vector plus itself shifted by 256 places. -/
def sh256 (x : FVec Ideal S1x1024 .f32) : FVec Ideal S1x1024 .f32 :=
  addf x (concatenate S1x1024 1 [⟨S1x256, broadcast S1x256 (Scalar.ofBits .f32 0x00000000#32)⟩, ⟨S1x768, extractStridedSlice S1x768 ![0, 0] x slices_S1x1024_o0_0_S1x768⟩] concatenates_S1x256_S1x768_S1x1024_d1)

theorem sh256_at (hx : ∀ l : Fin 1024, x (ix2 0 l) = nat (win f 256 l.val)) : sh256 x (ix2 0 j) = nat (win f 512 j.val) := by
  have h1 := doubled f 256 (fun l => x (ix2 0 l)) hx j
  pointwise [sh256]
  exact h1

/-- The vector plus itself shifted by 512 places. -/
def sh512 (x : FVec Ideal S1x1024 .f32) : FVec Ideal S1x1024 .f32 :=
  addf x (concatenate S1x1024 1 [⟨S1x512, broadcast S1x512 (Scalar.ofBits .f32 0x00000000#32)⟩, ⟨S1x512, extractStridedSlice S1x512 ![0, 0] x slices_S1x1024_o0_0_S1x512⟩] concatenates_S1x512_S1x512_S1x1024_d1)

theorem sh512_at (hx : ∀ l : Fin 1024, x (ix2 0 l) = nat (win f 512 l.val)) : sh512 x (ix2 0 j) = nat (win f 1024 j.val) := by
  have h1 := doubled f 512 (fun l => x (ix2 0 l)) hx j
  pointwise [sh512]
  exact h1

/-- The selection rows from the marks and the running count. -/
def pick (v307 v347 : FVec Ideal S1x1024 .f32) : FVec Ideal S304x1024 .f32 :=
  have v349 : FVec Ideal S1x1024 .f32 := subf v347 (broadcast S1x1024 (Scalar.ofBits .f32 0x3F800000#32))
  have v351 : IVec S1x1024 1 := cmpf .ogt v307 (broadcast S1x1024 (Scalar.ofBits .f32 0x00000000#32))
  have v353 : IVec S1x1024 1 := cmpf .olt v349 (broadcast S1x1024 (Scalar.ofBits .f32 0x43960000#32))
  have v358 : IVec S304x1024 1 := cmpi .eq (iota .tc S304x1024 32 [0] iota_S304x1024_d0_w32) (broadcastTo S304x1024 (fptosi 32 v349) broadcasts_S1x1024_S304x1024)
  have v359 : IVec S304x1024 1 := broadcastTo S304x1024 (andi v351 v353) broadcasts_S1x1024_S304x1024
  select (andi v358 v359) (broadcast S304x1024 (Scalar.ofBits (F := Ideal) .f32 0x3F800000#32)) (broadcast S304x1024 (Scalar.ofBits (F := Ideal) .f32 0x00000000#32))

theorem pay36_eq : k1_pay36 x (k1_pay33 x) k1_pay34 (k1_pay35 x)
    = pick x (sh512 (sh256 (sh128 (sh64 (sh32 (sh16 (sh8 (sh4 (k1_pay33 x))))))))) := rfl

/-- The value of the literal three hundred. -/
theorem lit_300 : Ideal.ofBits .f32 0x43960000#32 = nat 300 := by
  simp [Ideal.ofBits, Ideal.ieee, nat, -EReal.coe_mul]; norm_num

/-- A small natural number converted to a word. -/
theorem fptosi_nat (n : ℕ) (h : n < 2 ^ 31) : Ideal.fptosi 32 (nat n) = BitVec.ofNat 32 n := by
  have e : Ideal.toIntClamped (-((2 ^ (32 - 1) : ℕ) : ℤ)) (((2 ^ (32 - 1) : ℕ) : ℤ) - 1) ((n : ℝ) : EReal) = (n : ℤ) := by
    unfold Ideal.toIntClamped
    have h0 : (0 : ℝ) ≤ (n : ℝ) := Nat.cast_nonneg n
    show max _ (min _ (if (0 : ℝ) ≤ (n : ℝ) then ⌊(n : ℝ)⌋ else ⌈(n : ℝ)⌉)) = _
    rw [if_pos h0, Int.floor_natCast]
    omega
  unfold Ideal.fptosi nat
  rw [e]
  exact BitVec.ofInt_natCast 32 n

/-- The selection rows at an entry. -/
theorem pick_at (c : FVec Ideal S1x1024 .f32) (g : ℕ → ℕ) (hx : ∀ l : Fin 1024, x (ix2 0 l) = if f l.val = true then 1 else 0)
    (hc : ∀ l : Fin 1024, c (ix2 0 l) = nat (g l.val)) (hg : ∀ l, f l = true → 1 ≤ g l ∧ g l ≤ l + 1) (r : Fin 304) :
    pick x c (ix2 r j) = if (f j.val = true ∧ g j.val = r.val + 1) ∧ r.val < 300 then 1 else 0 := by
  have hj := j.isLt
  pointwise [pick]
  rw [hx j]
  by_cases h : f j.val = true
  · obtain ⟨h1, h2⟩ := hg j.val h
    have hm : c (ix2 0 j) - 1 = nat (g j.val - 1) := by
      rw [hc, show (1 : EReal) = ((1 : ℝ) : EReal) from rfl]
      unfold nat
      rw [← EReal.coe_sub, Nat.cast_sub h1, Nat.cast_one]
    rw [hm, show FloatOps.fptosi (F := Ideal) (φ := .f32) 32 (nat (g j.val - 1)) = BitVec.ofNat 32 (g j.val - 1) from fptosi_nat _ (by omega),
      Words.eq_word (by omega) (by omega), lit_300]
    have hlt : (nat (g j.val - 1) < nat 300) ↔ g j.val - 1 < 300 := by
      unfold nat; rw [EReal.coe_lt_coe_iff, Nat.cast_lt]
    by_cases hr' : g j.val = r.val + 1
    · have a1 : r.val = g j.val - 1 := by omega
      by_cases hr : r.val < 300
      · have a2 : nat (g j.val - 1) < nat 300 := hlt.mpr (by omega)
        rw [if_pos h, if_pos ⟨⟨h, hr'⟩, hr⟩, decide_eq_true a1, decide_eq_true a2]
        simp [Scalar.select, IntOp.andi]
      · have a2 : ¬ nat (g j.val - 1) < nat 300 := fun e => hr (by have := hlt.mp e; omega)
        rw [if_pos h, if_neg (fun (e : (f j.val = true ∧ g j.val = r.val + 1) ∧ r.val < 300) => hr e.2), decide_eq_true a1, decide_eq_false a2]
        simp [Scalar.select, IntOp.andi]
    · have a1 : ¬ r.val = g j.val - 1 := by omega
      rw [if_pos h, if_neg (fun (e : (f j.val = true ∧ g j.val = r.val + 1) ∧ r.val < 300) => hr' e.1.2), decide_eq_false a1]
      simp [Scalar.select, IntOp.andi]
  · rw [if_neg h, if_neg (fun (e : (f j.val = true ∧ g j.val = r.val + 1) ∧ r.val < 300) => h e.1.1)]
    simp [Scalar.select, IntOp.andi]

/-- The selection rows of the call. -/
theorem rows_at (hx : ∀ l : Fin 1024, x (ix2 0 l) = if f l.val = true then 1 else 0) (r : Fin 304) :
    k1_pay36 x (k1_pay33 x) k1_pay34 (k1_pay35 x) (ix2 r j)
      = if (f j.val = true ∧ ((Finset.range (j.val + 1)).filter fun q => f q = true).card = r.val + 1) ∧ r.val < 300 then 1 else 0 := by
  rw [pay36_eq]
  refine pick_at f x j _ (fun j => ((Finset.range (j + 1)).filter fun q => f q = true).card) hx (fun l => ?_) (fun l hl => ⟨?_, ?_⟩) r
  · rw [← win_all f 1024 l.val l.isLt]
    have h1 : ∀ l : Fin 1024, x (ix2 0 l) = nat (win f 1 l.val) := fun l => by
      rw [hx, win_one]; by_cases h : f l.val = true <;> simp [h, nat]
    exact sh512_at f _ l fun l => sh256_at f _ l fun l => sh128_at f _ l fun l => sh64_at f _ l fun l => sh32_at f _ l fun l =>
      sh16_at f _ l fun l => sh8_at f _ l fun l => sh4_at f _ l fun l => pay33 f x l h1
  · rw [Nat.one_le_iff_ne_zero, ← Nat.pos_iff_ne_zero, Finset.card_pos]
    exact ⟨l, by simp [hl]⟩
  · exact (Finset.card_filter_le _ _).trans (by simp)

end Cert.KerCount
-- ==== Proof.KerNms.lean ====
/-
  The suppression call: the table of overlaps it keeps, its thousand rounds and its result, from a table of boxes.
-/
module

public import proofs.«01_k».proof.Proof.KerCount
public import Idealize.ShloMosaic.Lib.Writes
public import Idealize.ShloMosaic.Lib.WritesUnit
public import Idealize.ShloMosaic.Lib.Pipeline.ValueKit.Acc
public import Idealize.ShloMosaic.Lib.Pipeline.ValueKit.Geometry

@[expose] public section

set_option maxRecDepth 16384

noncomputable section

namespace Cert.KerNms

open Idealize.ShloMosaic Idealize.ShloMosaic.TcCoe
open Cert.KernelIdeal Cert.KernelIdeal.Gen Cert.Spec Cert.Nms

/-- A block of the box rows, at an entry. -/
theorem rdBlk (arg0 : Memref sig .tc .vmem S1024x8 .f32) (harg0 : arg0.IsWhole) (d : Vec Ideal S1024x8 .f32) (o : ℕ)
    (h : ∀ a, (![o, 0] : Fin 2 → ℕ) a + S128x8.size a ≤ S1024x8.size a) (i : Fin 128) (k : Fin 8) (ho : o + 128 ≤ 1024) :
    View.readAt (Elt Ideal) arg0.view (Rect.unit (s := S1024x8) ![o, 0] S128x8.size h).toLoadRect (harg0.unread d) (ix2 i k) = d (ix2 ⟨o + i.val, by omega⟩ k) := by
  rw [View.readAt_eq_ld, Memref.IsWhole.read_unread]
  pointwise

/-- A row of the transposed boxes, at an entry. -/
theorem rdRow (arg1 : Memref sig .tc .vmem S8x1024 .f32) (harg1 : arg1.IsWhole) (d : Vec Ideal S8x1024 .f32) (o : ℕ)
    (h : ∀ a, (![o, 0] : Fin 2 → ℕ) a + S1x1024.size a ≤ S8x1024.size a) (j : Fin 1024) (ho : o < 8) :
    View.readAt (Elt Ideal) arg1.view (Rect.unit (s := S8x1024) ![o, 0] S1x1024.size h).toLoadRect (harg1.unread d) (ix2 0 j) = d (ix2 ⟨o, ho⟩ j) := by
  rw [View.readAt_eq_ld, Memref.IsWhole.read_unread]
  pointwise

/-- The whole of the boxes' corners, at an entry. -/
theorem rdAll (arg2 : Memref sig .tc .vmem S1024x4 .f32) (harg2 : arg2.IsWhole) (d : Vec Ideal S1024x4 .f32)
    (h : ∀ a, (![0, 0] : Fin 2 → ℕ) a + S1024x4.size a ≤ S1024x4.size a) (j : Fin 1024) (k : Fin 4) :
    View.readAt (Elt Ideal) arg2.view (Rect.unit (s := S1024x4) ![0, 0] S1024x4.size h).toLoadRect (harg2.unread d) (ix2 j k) = d (ix2 j k) := by
  rw [View.readAt_eq_ld, Memref.IsWhole.read_unread]
  pointwise

/-- The table of boxes behind the two box operands. -/
structure Rows (box : ℕ → Fin 9 → EReal) (x0 : Vec Ideal S1024x8 .f32) (x1 : Vec Ideal S8x1024 .f32) : Prop where
  row : ∀ (p : Fin 1024) (k : Fin 8), x0 (ix2 p k) = box p.val ⟨k.val, by omega⟩
  col : ∀ (k : Fin 8) (p : Fin 1024), x1 (ix2 k p) = box p.val ⟨k.val, by omega⟩

variable (c : Dev nD) (arg0 : Memref sig .tc .vmem S1024x8 .f32) (harg0 : arg0.IsWhole) (arg1 : Memref sig .tc .vmem S8x1024 .f32) (harg1 : arg1.IsWhole)
  (x0 : Vec Ideal S1024x8 .f32) (x1 : Vec Ideal S8x1024 .f32) {box : ℕ → Fin 9 → EReal}

/-- The table of overlaps, as a function on the scratch's indices. -/
def table (box : ℕ → Fin 9 → EReal) (y : S1024x1024.Idx) : EReal := ov box (y 0).val (y 1).val

theorem pair_ov (i j : ℕ) : KerPay.pairOv (box i 0) (box i 1) (box i 2) (box i 3) (box j 0) (box j 1) (box j 2) (box j 3) (box j 4) = ov box i j := rfl

theorem r0 (hb : Rows box x0 x1) (j : Fin 1024) : kernelRun1_A.sl.r c arg1 harg1 x1 (ix2 0 j) = box j.val 0 := by
  unfold kernelRun1_A.sl.r
  exact (KerPay.row2 j _).trans ((rdRow arg1 harg1 x1 0 _ j (by omega)).trans (hb.col 0 j))
theorem r1 (hb : Rows box x0 x1) (j : Fin 1024) : kernelRun1_A.sl.r_1 c arg1 harg1 x1 (ix2 0 j) = box j.val 1 := by
  unfold kernelRun1_A.sl.r_1
  exact (KerPay.row3 j _).trans ((rdRow arg1 harg1 x1 1 _ j (by omega)).trans (hb.col 1 j))
theorem r2 (hb : Rows box x0 x1) (j : Fin 1024) : kernelRun1_A.sl.r_2 c arg1 harg1 x1 (ix2 0 j) = box j.val 2 := by
  unfold kernelRun1_A.sl.r_2
  exact (KerPay.row4 j _).trans ((rdRow arg1 harg1 x1 2 _ j (by omega)).trans (hb.col 2 j))
theorem r3 (hb : Rows box x0 x1) (j : Fin 1024) : kernelRun1_A.sl.r_3 c arg1 harg1 x1 (ix2 0 j) = box j.val 3 := by
  unfold kernelRun1_A.sl.r_3
  exact (KerPay.row5 j _).trans ((rdRow arg1 harg1 x1 3 _ j (by omega)).trans (hb.col 3 j))
theorem r4 (hb : Rows box x0 x1) (j : Fin 1024) : kernelRun1_A.sl.r_4 c arg1 harg1 x1 (ix2 0 j) = box j.val 4 := by
  unfold kernelRun1_A.sl.r_4
  exact (KerPay.row6 j _).trans ((rdRow arg1 harg1 x1 4 _ j (by omega)).trans (hb.col 4 j))
theorem r5 (hb : Rows box x0 x1) (j : Fin 1024) : kernelRun1_A.sl.r_5 c arg1 harg1 x1 (ix2 0 j) = box j.val 5 := by
  unfold kernelRun1_A.sl.r_5
  exact (KerPay.row7 j _).trans ((rdRow arg1 harg1 x1 5 _ j (by omega)).trans (hb.col 5 j))

theorem emb_piece (o : ℕ) (h : ∀ a, (![o, 0] : Fin 2 → ℕ) a + S128x1024.size a ≤ S1024x1024.size a) (i : Fin 128) (j : Fin 1024) :
    table box ((Rect.unit (s := S1024x1024) ![o, 0] S128x1024.size h).emb (ix2 i j)) = ov box (o + i.val) j.val := by
  show ov box (o + 1 * i.val) (0 + 1 * j.val) = _
  rw [Nat.one_mul, Nat.one_mul, Nat.zero_add]

/-- A block's overlap from the entries it reads is the table's. -/
theorem piece (hb : Rows box x0 x1) (o : ℕ) (ho : o + 128 ≤ 1024) (w : Vec Ideal S128x8 .f32)
    (hw : ∀ (i : Fin 128) (k : Fin 8), w (ix2 i k) = x0 (ix2 ⟨o + i.val, by omega⟩ k)) (v0 v1 v2 v3 v4 : Vec Ideal S1x1024 .f32)
    (h0 : ∀ j : Fin 1024, v0 (ix2 0 j) = box j.val 0) (h1 : ∀ j : Fin 1024, v1 (ix2 0 j) = box j.val 1)
    (h2 : ∀ j : Fin 1024, v2 (ix2 0 j) = box j.val 2) (h3 : ∀ j : Fin 1024, v3 (ix2 0 j) = box j.val 3)
    (h4 : ∀ j : Fin 1024, v4 (ix2 0 j) = box j.val 4) (i : Fin 128) (j : Fin 1024) :
    KerPay.pairOv (w (ix2 i 0)) (w (ix2 i 1)) (w (ix2 i 2)) (w (ix2 i 3)) (v0 (ix2 0 j)) (v1 (ix2 0 j)) (v2 (ix2 0 j)) (v3 (ix2 0 j)) (v4 (ix2 0 j))
      = ov box (o + i.val) j.val := by
  rw [hw, hw, hw, hw, h0, h1, h2, h3, h4, hb.row, hb.row, hb.row, hb.row]
  rfl

/-- The block stored at row 0. -/
theorem piece0 (hb : Rows box x0 x1) (i : Fin 128) (j : Fin 1024) :
    k1_pay9 (kernelRun1_A.sl.r_4 c arg1 harg1 x1) (k1_pay8 (View.readAt (Elt Ideal) arg1.view (Rect.unit (s := S8x1024) ![0, 0] S1x1024.size inb_S8x1024_S1x1024_0_0).toLoadRect (harg1.unread x1)) (View.readAt (Elt Ideal) arg1.view (Rect.unit (s := S8x1024) ![1, 0] S1x1024.size inb_S8x1024_S1x1024_1_0).toLoadRect (harg1.unread x1)) (View.readAt (Elt Ideal) arg1.view (Rect.unit (s := S8x1024) ![2, 0] S1x1024.size inb_S8x1024_S1x1024_2_0).toLoadRect (harg1.unread x1)) (View.readAt (Elt Ideal) arg1.view (Rect.unit (s := S8x1024) ![3, 0] S1x1024.size inb_S8x1024_S1x1024_3_0).toLoadRect (harg1.unread x1)) (View.readAt (Elt Ideal) arg0.view (Rect.unit (s := S1024x8) ![0, 0] S128x8.size inb_S1024x8_S128x8_0_0).toLoadRect (harg0.unread x0))) kernelRun1_A.sl.cst_11 (ix2 i j) = ov box (0 + i.val) j.val :=
  (KerPay.blk0 (kernelRun1_A.sl.r_4 c arg1 harg1 x1) (View.readAt (Elt Ideal) arg0.view (Rect.unit (s := S1024x8) ![0, 0] S128x8.size inb_S1024x8_S128x8_0_0).toLoadRect (harg0.unread x0)) i j (View.readAt (Elt Ideal) arg1.view (Rect.unit (s := S8x1024) ![0, 0] S1x1024.size inb_S8x1024_S1x1024_0_0).toLoadRect (harg1.unread x1)) (View.readAt (Elt Ideal) arg1.view (Rect.unit (s := S8x1024) ![1, 0] S1x1024.size inb_S8x1024_S1x1024_1_0).toLoadRect (harg1.unread x1)) (View.readAt (Elt Ideal) arg1.view (Rect.unit (s := S8x1024) ![2, 0] S1x1024.size inb_S8x1024_S1x1024_2_0).toLoadRect (harg1.unread x1)) (View.readAt (Elt Ideal) arg1.view (Rect.unit (s := S8x1024) ![3, 0] S1x1024.size inb_S8x1024_S1x1024_3_0).toLoadRect (harg1.unread x1))).trans
    (piece x0 x1 hb 0 (by omega) (View.readAt (Elt Ideal) arg0.view (Rect.unit (s := S1024x8) ![0, 0] S128x8.size inb_S1024x8_S128x8_0_0).toLoadRect (harg0.unread x0)) (fun i k => rdBlk arg0 harg0 x0 0 _ i k (by omega)) (View.readAt (Elt Ideal) arg1.view (Rect.unit (s := S8x1024) ![0, 0] S1x1024.size inb_S8x1024_S1x1024_0_0).toLoadRect (harg1.unread x1)) (View.readAt (Elt Ideal) arg1.view (Rect.unit (s := S8x1024) ![1, 0] S1x1024.size inb_S8x1024_S1x1024_1_0).toLoadRect (harg1.unread x1)) (View.readAt (Elt Ideal) arg1.view (Rect.unit (s := S8x1024) ![2, 0] S1x1024.size inb_S8x1024_S1x1024_2_0).toLoadRect (harg1.unread x1)) (View.readAt (Elt Ideal) arg1.view (Rect.unit (s := S8x1024) ![3, 0] S1x1024.size inb_S8x1024_S1x1024_3_0).toLoadRect (harg1.unread x1)) (kernelRun1_A.sl.r_4 c arg1 harg1 x1) (fun j => (rdRow arg1 harg1 x1 0 _ j (by omega)).trans (hb.col 0 j)) (fun j => (rdRow arg1 harg1 x1 1 _ j (by omega)).trans (hb.col 1 j)) (fun j => (rdRow arg1 harg1 x1 2 _ j (by omega)).trans (hb.col 2 j)) (fun j => (rdRow arg1 harg1 x1 3 _ j (by omega)).trans (hb.col 3 j)) (r4 c arg1 harg1 x0 x1 hb) i j)

/-- The block stored at row 128. -/
theorem piece128 (hb : Rows box x0 x1) (i : Fin 128) (j : Fin 1024) :
    k1_pay10 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![128, 0] S128x8.size inb_S1024x8_S128x8_128_0).toLoadRect (harg0.unread x0)) (ix2 i j) = ov box (128 + i.val) j.val :=
  (KerPay.blk1 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![128, 0] S128x8.size inb_S1024x8_S128x8_128_0).toLoadRect (harg0.unread x0)) i j).trans
    (piece x0 x1 hb 128 (by omega) (View.readAt (Elt Ideal) arg0.view (Rect.unit (s := S1024x8) ![128, 0] S128x8.size inb_S1024x8_S128x8_128_0).toLoadRect (harg0.unread x0)) (fun i k => rdBlk arg0 harg0 x0 128 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 256. -/
theorem piece256 (hb : Rows box x0 x1) (i : Fin 128) (j : Fin 1024) :
    k1_pay12 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (k1_pay11 (View.readAt (Elt Ideal) arg0.view (Rect.unit (s := S1024x8) ![256, 0] S128x8.size inb_S1024x8_S128x8_256_0).toLoadRect (harg0.unread x0))) (ix2 i j) = ov box (256 + i.val) j.val :=
  (KerPay.blk2 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![256, 0] S128x8.size inb_S1024x8_S128x8_256_0).toLoadRect (harg0.unread x0)) i j).trans
    (piece x0 x1 hb 256 (by omega) (View.readAt (Elt Ideal) arg0.view (Rect.unit (s := S1024x8) ![256, 0] S128x8.size inb_S1024x8_S128x8_256_0).toLoadRect (harg0.unread x0)) (fun i k => rdBlk arg0 harg0 x0 256 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 384. -/
theorem piece384 (hb : Rows box x0 x1) (i : Fin 128) (j : Fin 1024) :
    k1_pay18 (kernelRun1_A.sl.r_3 c arg1 harg1 x1) (kernelRun1_A.sl.r_4 c arg1 harg1 x1) (k1_pay14 (kernelRun1_A.sl.r c arg1 harg1 x1) (View.readAt (Elt Ideal) arg0.view (Rect.unit (s := S1024x8) ![384, 0] S128x8.size inb_S1024x8_S128x8_384_0).toLoadRect (harg0.unread x0))) (k1_pay15 (kernelRun1_A.sl.r_1 c arg1 harg1 x1) (View.readAt (Elt Ideal) arg0.view (Rect.unit (s := S1024x8) ![384, 0] S128x8.size inb_S1024x8_S128x8_384_0).toLoadRect (harg0.unread x0))) (k1_pay16 (kernelRun1_A.sl.r_2 c arg1 harg1 x1) (View.readAt (Elt Ideal) arg0.view (Rect.unit (s := S1024x8) ![384, 0] S128x8.size inb_S1024x8_S128x8_384_0).toLoadRect (harg0.unread x0))) (k1_pay17 (View.readAt (Elt Ideal) arg0.view (Rect.unit (s := S1024x8) ![384, 0] S128x8.size inb_S1024x8_S128x8_384_0).toLoadRect (harg0.unread x0))) (ix2 i j) = ov box (384 + i.val) j.val :=
  (KerPay.blk3 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![384, 0] S128x8.size inb_S1024x8_S128x8_384_0).toLoadRect (harg0.unread x0)) i j).trans
    (piece x0 x1 hb 384 (by omega) (View.readAt (Elt Ideal) arg0.view (Rect.unit (s := S1024x8) ![384, 0] S128x8.size inb_S1024x8_S128x8_384_0).toLoadRect (harg0.unread x0)) (fun i k => rdBlk arg0 harg0 x0 384 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 512. -/
theorem piece512 (hb : Rows box x0 x1) (i : Fin 128) (j : Fin 1024) :
    k1_pay22 (kernelRun1_A.sl.r_4 c arg1 harg1 x1) (k1_pay20 (kernelRun1_A.sl.r c arg1 harg1 x1) (kernelRun1_A.sl.r_2 c arg1 harg1 x1) (View.readAt (Elt Ideal) arg0.view (Rect.unit (s := S1024x8) ![512, 0] S128x8.size inb_S1024x8_S128x8_512_0).toLoadRect (harg0.unread x0))) (k1_pay21 (kernelRun1_A.sl.r_1 c arg1 harg1 x1) (kernelRun1_A.sl.r_3 c arg1 harg1 x1) (View.readAt (Elt Ideal) arg0.view (Rect.unit (s := S1024x8) ![512, 0] S128x8.size inb_S1024x8_S128x8_512_0).toLoadRect (harg0.unread x0))) kernelRun1_A.sl.cst_42 (ix2 i j) = ov box (512 + i.val) j.val :=
  (KerPay.blk4 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![512, 0] S128x8.size inb_S1024x8_S128x8_512_0).toLoadRect (harg0.unread x0)) i j).trans
    (piece x0 x1 hb 512 (by omega) (View.readAt (Elt Ideal) arg0.view (Rect.unit (s := S1024x8) ![512, 0] S128x8.size inb_S1024x8_S128x8_512_0).toLoadRect (harg0.unread x0)) (fun i k => rdBlk arg0 harg0 x0 512 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 640. -/
theorem piece640 (hb : Rows box x0 x1) (i : Fin 128) (j : Fin 1024) :
    k1_pay23 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![640, 0] S128x8.size inb_S1024x8_S128x8_640_0).toLoadRect (harg0.unread x0)) (ix2 i j) = ov box (640 + i.val) j.val :=
  (KerPay.blk5 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![640, 0] S128x8.size inb_S1024x8_S128x8_640_0).toLoadRect (harg0.unread x0)) i j).trans
    (piece x0 x1 hb 640 (by omega) (View.readAt (Elt Ideal) arg0.view (Rect.unit (s := S1024x8) ![640, 0] S128x8.size inb_S1024x8_S128x8_640_0).toLoadRect (harg0.unread x0)) (fun i k => rdBlk arg0 harg0 x0 640 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 768. -/
theorem piece768 (hb : Rows box x0 x1) (i : Fin 128) (j : Fin 1024) :
    k1_pay24 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![768, 0] S128x8.size inb_S1024x8_S128x8_768_0).toLoadRect (harg0.unread x0)) (ix2 i j) = ov box (768 + i.val) j.val :=
  (KerPay.blk6 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![768, 0] S128x8.size inb_S1024x8_S128x8_768_0).toLoadRect (harg0.unread x0)) i j).trans
    (piece x0 x1 hb 768 (by omega) (View.readAt (Elt Ideal) arg0.view (Rect.unit (s := S1024x8) ![768, 0] S128x8.size inb_S1024x8_S128x8_768_0).toLoadRect (harg0.unread x0)) (fun i k => rdBlk arg0 harg0 x0 768 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

/-- The block stored at row 896. -/
theorem piece896 (hb : Rows box x0 x1) (i : Fin 128) (j : Fin 1024) :
    k1_pay30 (kernelRun1_A.sl.r_2 c arg1 harg1 x1) (kernelRun1_A.sl.r_3 c arg1 harg1 x1) (kernelRun1_A.sl.r_4 c arg1 harg1 x1) (k1_pay26 (View.readAt (Elt Ideal) arg0.view (Rect.unit (s := S1024x8) ![896, 0] S128x8.size inb_S1024x8_S128x8_896_0).toLoadRect (harg0.unread x0))) (k1_pay27 (View.readAt (Elt Ideal) arg0.view (Rect.unit (s := S1024x8) ![896, 0] S128x8.size inb_S1024x8_S128x8_896_0).toLoadRect (harg0.unread x0))) (k1_pay28 (kernelRun1_A.sl.r c arg1 harg1 x1) (View.readAt (Elt Ideal) arg0.view (Rect.unit (s := S1024x8) ![896, 0] S128x8.size inb_S1024x8_S128x8_896_0).toLoadRect (harg0.unread x0))) (k1_pay29 (kernelRun1_A.sl.r_1 c arg1 harg1 x1) (View.readAt (Elt Ideal) arg0.view (Rect.unit (s := S1024x8) ![896, 0] S128x8.size inb_S1024x8_S128x8_896_0).toLoadRect (harg0.unread x0))) (ix2 i j) = ov box (896 + i.val) j.val :=
  (KerPay.blk7 (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (View.readAt (Elt Ideal) arg0.view (Rect.unit (s := S1024x8) ![896, 0] S128x8.size inb_S1024x8_S128x8_896_0).toLoadRect (harg0.unread x0)) i j).trans
    (piece x0 x1 hb 896 (by omega) (View.readAt (Elt Ideal) arg0.view (Rect.unit (s := S1024x8) ![896, 0] S128x8.size inb_S1024x8_S128x8_896_0).toLoadRect (harg0.unread x0)) (fun i k => rdBlk arg0 harg0 x0 896 _ i k (by omega)) (kernelRun1_A.sl.r c arg1 harg1 x1) (kernelRun1_A.sl.r_1 c arg1 harg1 x1) (kernelRun1_A.sl.r_2 c arg1 harg1 x1) (kernelRun1_A.sl.r_3 c arg1 harg1 x1) (kernelRun1_A.sl.r_4 c arg1 harg1 x1) (r0 c arg1 harg1 x0 x1 hb) (r1 c arg1 harg1 x0 x1 hb) (r2 c arg1 harg1 x0 x1 hb) (r3 c arg1 harg1 x0 x1 hb) (r4 c arg1 harg1 x0 x1 hb) i j)

theorem of_pairs (o : ℕ) (h : ∀ a, (![o, 0] : Fin 2 → ℕ) a + S128x1024.size a ≤ S1024x1024.size a) (p : FVec Ideal S128x1024 .f32)
    (hp : ∀ (i : Fin 128) (j : Fin 1024), p (ix2 i j) = ov box (o + i.val) j.val) (x : S128x1024.Idx) :
    p x = table box ((Rect.unit (s := S1024x1024) ![o, 0] S128x1024.size h).emb x) := by
  obtain ⟨i, j, rfl⟩ : ∃ (i : Fin 128) (j : Fin 1024), x = ix2 i j := ⟨x 0, x 1, by funext a; fin_cases a <;> rfl⟩
  exact (hp i j).trans (emb_piece o h i j).symm

/-- The scratch after its eight stores holds the table of overlaps. -/
theorem scratch (hb : Rows box x0 x1) (arg4 : Memref sig .tc .vmem S1024x1024 .f32) (f : BufTy.Contents (Elt Ideal) arg4.view.ty) (y : S1024x1024.Idx) :
    arg4.view.read (Elt Ideal) (arg4.view.writes (Elt Ideal) f (kernelRun1_A.sl.HS0_8 c arg0 harg0 arg1 harg1 x0 x1)) y = table box y := by
  refine View.read_writes_apply_of_pieces (Val := Elt Ideal) (e := .f32) _ _ (table box) _ ?_ y
    (View.cover_of_tiledL (kernelRun1_A.sl.HS0_8 c arg0 harg0 arg1 harg1 x0 x1) S128x1024.size (by sl_kernel_rfl) y)
  unfold kernelRun1_A.sl.HS0_8
  refine List.forall_mem_cons.mpr ⟨of_pairs 896 inb_S1024x1024_S128x1024_896_0 _ (piece896 c arg0 harg0 arg1 harg1 x0 x1 hb), ?_⟩
  refine List.forall_mem_cons.mpr ⟨of_pairs 768 inb_S1024x1024_S128x1024_768_0 _ (piece768 c arg0 harg0 arg1 harg1 x0 x1 hb), ?_⟩
  refine List.forall_mem_cons.mpr ⟨of_pairs 640 inb_S1024x1024_S128x1024_640_0 _ (piece640 c arg0 harg0 arg1 harg1 x0 x1 hb), ?_⟩
  refine List.forall_mem_cons.mpr ⟨of_pairs 512 inb_S1024x1024_S128x1024_512_0 _ (piece512 c arg0 harg0 arg1 harg1 x0 x1 hb), ?_⟩
  refine List.forall_mem_cons.mpr ⟨of_pairs 384 inb_S1024x1024_S128x1024_384_0 _ (piece384 c arg0 harg0 arg1 harg1 x0 x1 hb), ?_⟩
  refine List.forall_mem_cons.mpr ⟨of_pairs 256 inb_S1024x1024_S128x1024_256_0 _ (piece256 c arg0 harg0 arg1 harg1 x0 x1 hb), ?_⟩
  refine List.forall_mem_cons.mpr ⟨of_pairs 128 inb_S1024x1024_S128x1024_128_0 _ (piece128 c arg0 harg0 arg1 harg1 x0 x1 hb), ?_⟩
  refine List.forall_mem_cons.mpr ⟨of_pairs 0 inb_S1024x1024_S128x1024_0_0 _ (piece0 c arg0 harg0 arg1 harg1 x0 x1 hb), ?_⟩
  exact fun _ h => absurd h List.not_mem_nil

/-- One trip of the rounds is the round's vector step on the row of overlaps it reads. -/
theorem trip_eq (𝒱 : Variants) (bd : Option 𝒱.V) (arg2 : Memref sig .tc .vmem S1024x4 .f32) (harg2 : arg2.IsWhole) (arg3 : Memref sig .tc .vmem S304x4 .f32) (harg3 : arg3.IsWhole)
    (arg4 : Memref sig .tc .vmem S1024x1024 .f32) (harg4 : arg4.IsWhole) (v5 v7 v9 v11 : FVec Ideal S1x1024 .f32) (v268 v269 : FVec Ideal S128x1 .f32) (v272 v275 : FVec Ideal S128x1024 .f32)
    (X : BufTy.Contents (Elt Ideal) arg4.view.ty) (k : Fin k1_t1_loop.trips) (acc : FVec Ideal S1x1024 .f32) :
    tripR_k1_t1 𝒱 c bd arg0 harg0 arg1 harg1 arg2 harg2 arg3 harg3 arg4 harg4 v5 v7 v9 v11 v268 v269 v272 v275 X k acc
      = k1_pay32 k acc (View.readAt (Elt Ideal) arg4.view (Rect.unit (s := S1024x1024) (k1_off1 k) S1x1024.size (k1_off1_inb k)).toLoadRect X) := by
  unfold tripR_k1_t1 trip_k1_t1
  rfl

/-- The row of overlaps a trip reads. -/
theorem rdOv (arg4 : Memref sig .tc .vmem S1024x1024 .f32) (X : BufTy.Contents (Elt Ideal) arg4.view.ty) (hX : ∀ y, arg4.view.read (Elt Ideal) X y = table box y)
    (k : Fin k1_t1_loop.trips) (j : Fin 1024) :
    View.readAt (Elt Ideal) arg4.view (Rect.unit (s := S1024x1024) (k1_off1 k) S1x1024.size (k1_off1_inb k)).toLoadRect X (ix2 0 j) = ov box k.val j.val := by
  rw [View.readAt_eq_ld]
  refine (hX _).trans ?_
  have ht : k.val < 1000 := Nat.lt_of_lt_of_le k.isLt k1_t1_abs.2.1
  have h0 : k1_off1 k 0 = k.val := by
    show (Scf.iv 0#32 1#32 k.val).toNat = k.val
    simp only [Scf.iv, BitVec.toNat_add, BitVec.toNat_mul, BitVec.toNat_ofNat]
    omega
  have h1 : k1_off1 k 1 = 0 := rfl
  show ov box (k1_off1 k 0 + 1 * 0) (k1_off1 k 1 + 1 * j.val) = _
  rw [h0, h1, Nat.mul_zero, Nat.add_zero, Nat.one_mul, Nat.zero_add]

/-- The marks after `k` rounds. -/
theorem marks_after (𝒱 : Variants) (bd : Option 𝒱.V) (arg2 : Memref sig .tc .vmem S1024x4 .f32) (harg2 : arg2.IsWhole) (arg3 : Memref sig .tc .vmem S304x4 .f32) (harg3 : arg3.IsWhole)
    (arg4 : Memref sig .tc .vmem S1024x1024 .f32) (harg4 : arg4.IsWhole) (v5 v7 v9 v11 : FVec Ideal S1x1024 .f32) (v268 v269 : FVec Ideal S128x1 .f32) (v272 v275 : FVec Ideal S128x1024 .f32)
    (X : BufTy.Contents (Elt Ideal) arg4.view.ty) (hX : ∀ y, arg4.view.read (Elt Ideal) X y = table box y)
    (init : FVec Ideal S1x1024 .f32) (hi : ∀ j : Fin 1024, init (ix2 0 j) = if km box 0 j.val = true then 1 else 0)
    (k : ℕ) (hk : k ≤ k1_t1_loop.trips) (j : Fin 1024) :
    st_k1_t1 𝒱 c bd arg0 harg0 arg1 harg1 arg2 harg2 arg3 harg3 arg4 harg4 v5 v7 v9 v11 v268 v269 v272 v275 X init k (ix2 0 j)
      = if km box k j.val = true then 1 else 0 := by
  induction k generalizing j with
  | zero => rw [st_k1_t1_zero]; exact hi j
  | succ k ih =>
    rw [st_k1_t1_succ 𝒱 c bd arg0 harg0 arg1 harg1 arg2 harg2 arg3 harg3 arg4 harg4 v5 v7 v9 v11 v268 v269 v272 v275 X init ⟨k, hk⟩, trip_eq]
    refine (KerPay.round j ⟨k, hk⟩ _ _ (km box k) (fun l => ih (by omega) l)).trans ?_
    rw [rdOv arg4 X hX]
    rfl

theorem trips_eq : Scf.trips 0#32 (Scalar.addi 0#32 1000#32) 1#32 = 1000 := by decide

/-- The call's stored block is the product of the selection rows and the boxes' corners. -/
theorem stored (arg2 : Memref sig .tc .vmem S1024x4 .f32) (harg2 : arg2.IsWhole) (arg3 : Memref sig .tc .vmem S304x4 .f32) (harg3 : arg3.IsWhole)
    (arg4 : Memref sig .tc .vmem S1024x1024 .f32) (harg4 : arg4.IsWhole) (x2 : Vec Ideal S1024x4 .f32) (y : S304x4.Idx) :
    out1_A_3 c arg0 harg0 arg1 harg1 arg2 harg2 arg3 harg3 arg4 harg4 x0 x1 x2 y
      = k1_pay1 (kernelRun1_A.sl.r_21 c arg0 harg0 arg1 harg1 arg2 harg2 arg3 harg3 arg4 harg4 x0 x1)
          (View.readAt (Elt Ideal) arg2.view (Rect.unit (s := S1024x4) ![0, 0] S1024x4.size inb_S1024x4_S1024x4_0_0).toLoadRect (harg2.unread x2)) y := by
  unfold out1_A_3
  refine View.read_writes_apply_of_pieces (Val := Elt Ideal) (e := .f32) _ _ (fun y => k1_pay1 (kernelRun1_A.sl.r_21 c arg0 harg0 arg1 harg1 arg2 harg2 arg3 harg3 arg4 harg4 x0 x1)
          (View.readAt (Elt Ideal) arg2.view (Rect.unit (s := S1024x4) ![0, 0] S1024x4.size inb_S1024x4_S1024x4_0_0).toLoadRect (harg2.unread x2)) y) _ ?_ y
    (cover1_A_3 c arg0 harg0 arg1 harg1 arg2 harg2 arg3 harg3 arg4 harg4 x0 x1 x2 y)
  unfold kernelRun1_A
  refine List.forall_mem_cons.mpr ⟨fun x => ?_, fun _ h => absurd h List.not_mem_nil⟩
  refine congrArg _ ?_
  funext a
  apply Fin.ext
  fin_cases a
  · show (x 0).val = 0 + 1 * (x 0).val
    omega
  · show (x 1).val = 0 + 1 * (x 1).val
    omega

theorem pay1_at (a : FVec Ideal S304x1024 .f32) (b : Vec Ideal S1024x4 .f32) (r : Fin 304) (k : Fin 4) :
    k1_pay1 a b (ix2 r k) = ∑ p : Fin 1024, a (ix2 r p) * b (ix2 p k) := by
  pointwise [k1_pay1]

theorem ite_zero_sum (q : Prop) [Decidable q] (f : Fin 1024 → EReal) : (if q then ∑ p, f p else 0) = ∑ p, if q then f p else 0 := by
  by_cases h : q <;> simp [h]

/-- The call's result: at place `r` the `r`-th survivor's corner. -/
theorem result (hb : Rows box x0 x1) (arg2 : Memref sig .tc .vmem S1024x4 .f32) (harg2 : arg2.IsWhole) (arg3 : Memref sig .tc .vmem S304x4 .f32) (harg3 : arg3.IsWhole)
    (arg4 : Memref sig .tc .vmem S1024x1024 .f32) (harg4 : arg4.IsWhole) (x2 : Vec Ideal S1024x4 .f32) (r : Fin 304) (k : Fin 4)
    (v : ℕ → EReal) (hv : ∀ p : Fin 1024, x2 (ix2 p k) = v p.val) (hneg : ∀ j, 1000 ≤ j → box j 5 < 0) :
    out1_A_3 c arg0 harg0 arg1 harg1 arg2 harg2 arg3 harg3 arg4 harg4 x0 x1 x2 (ix2 r k) = if r.val < 300 then Nms.out box v r.val else 0 := by
  rw [stored, pay1_at, out_eq box v r.val 1024 (by omega) hneg, ← Fin.sum_univ_eq_sum_range (fun p => if kept box p = true ∧ count box p = r.val + 1 then v p else 0) 1024, ite_zero_sum]
  refine Finset.sum_congr rfl fun p _ => ?_
  rw [rdAll, hv]
  have hm : ∀ l : Fin 1024, kernelRun1_A.sl.r_18 c arg0 harg0 arg1 harg1 arg2 harg2 arg3 harg3 arg4 harg4 x0 x1 (ix2 0 l) = if kept box l.val = true then 1 else 0 := by
    intro l
    unfold kernelRun1_A.sl.r_18
    rw [trips_eq]
    refine marks_after c arg0 harg0 arg1 harg1 (box := box) Variants.none none arg2 harg2 arg3 harg3 arg4 harg4 _ _ _ _ _ _ _ _ _
      (scratch c arg0 harg0 arg1 harg1 x0 x1 hb arg4 _) _ (fun j => ?_) 1000 (by decide) l
    refine (KerPay.marks j _).trans ?_
    rw [r5 c arg1 harg1 x0 x1 hb]
    rfl
  have h := KerCount.rows_at (kept box) _ p hm r
  rw [show kernelRun1_A.sl.r_21 c arg0 harg0 arg1 harg1 arg2 harg2 arg3 harg3 arg4 harg4 x0 x1 (ix2 r p) = _ from h]
  unfold Nms.count
  by_cases e : kept box p.val = true ∧ ((Finset.range (p.val + 1)).filter fun q => kept box q = true).card = r.val + 1 <;>
    by_cases h3 : r.val < 300 <;> simp [e, h3]

end Cert.KerNms
-- ==== Proof.KerRun.lean ====
/-
  The whole kernel: its result from the launch memory, and its run.
-/
module

public import proofs.«01_k».proof.Proof.Result
public import proofs.«01_k».proof.Proof.KerNms

@[expose] public section

set_option maxRecDepth 16384

noncomputable section

namespace Cert.KerRun

open Idealize.ShloMosaic Idealize.ShloMosaic.TcCoe
open Cert.KernelIdeal Cert.KernelIdeal.Gen Cert.Spec Cert.KerSel Cert.Result

variable (m : (ℓ : Loc nD τ sig) → Buf (Elt Ideal) ℓ) (ρ : Dev nD → PrngReg) (c : Dev nD)

/-- The scores of the launch memory. -/
abbrev scM : Fin 20736 → EReal := scOf (m ((c : Thread nD τ).loc main_arg0))
/-- The deltas of the launch memory. -/
abbrev deM : Fin 20736 → Fin 4 → EReal := deOf (m ((c : Thread nD τ).loc main_arg1))

theorem boxes : Boxes (W2 m ρ c) (scM m c) (deM m c) :=
  ⟨KerBox.w5 m ρ c, KerBox.w6 m ρ c, KerBox.w7 m ρ c, KerBox.w8 m ρ c, KerBox.w9 m ρ c, KerBox.w10 m ρ c, KerBox.w11 m ρ c, KerBox.w12 m ρ c⟩

/-- The selected positions after the host's first part. -/
theorem w4_29 (n : Fin 20736) (j : Fin 9) : W4 m ρ c (Proc.devRef .tc main_v29) (ix2 n j) = col (scM m c) (deM m c) n j :=
  (congrFun (W4_of m ρ c main_v29 (by decide)) _).trans (v29 (boxes m ρ c) n j)

theorem w4_31 (p : Fin 1000) : W4 m ρ c (Proc.devRef .tc main_v31) (ix1 p) = BitVec.ofNat 32 (mem (scM m c) (deM m c) p).val :=
  v31 (V := W3 m ρ c) (fun p => indices (boxes m ρ c) p) p

/-- The last host part in three pieces. -/
theorem split (V : Valuation τ sig (Elt Ideal)) : StableHlo.after (hostOps1_2 (F := Ideal)) V
    = StableHlo.after ((hostOps1_2 (F := Ideal)).drop 35) (StableHlo.after (((hostOps1_2 (F := Ideal)).take 35).drop 22)
        (StableHlo.after ((hostOps1_2 (F := Ideal)).take 22) V)) := by
  rw [← StableHlo.after_append, ← StableHlo.after_append]
  congr 1

theorem mid46 (V : Valuation τ sig (Elt Ideal)) :
    StableHlo.after (((hostOps1_2 (F := Ideal)).take 35).drop 22) V (Proc.devRef .tc main_v46) = V (Proc.devRef .tc main_v46) := by
  after_reads_simp

theorem last46 (p : Fin 1024) (j : Fin 9) : StableHlo.after (((hostOps1_2 (F := Ideal)).take 35).drop 22)
      (StableHlo.after ((hostOps1_2 (F := Ideal)).take 22) (W4 m ρ c)) (Proc.devRef .tc main_v46) (ix2 p j)
    = tab (scM m c) (deM m c) (mem (scM m c) (deM m c)) p j :=
  (congrFun (mid46 _) _).trans (v46 (w4_29 m ρ c) (w4_31 m ρ c) p j)

theorem last56 (p : Fin 1024) : StableHlo.after (((hostOps1_2 (F := Ideal)).take 35).drop 22)
      (StableHlo.after ((hostOps1_2 (F := Ideal)).take 22) (W4 m ρ c)) (Proc.devRef .tc main_v56_3) (ix1 p)
    = BitVec.ofNat 32 (take (scM m c) (deM m c) p).val :=
  v56 (fun p j => v46 (w4_29 m ρ c) (w4_31 m ρ c) p j) p

/-- The suppression call's box rows. -/
theorem w5_64 (p : Fin 1024) (j : Fin 8) : W5 m ρ c (Proc.devRef .tc main_v64) (ix2 p j) = rowsOf (scM m c) (deM m c) p.val ⟨j.val, by omega⟩ :=
  (congrFun (congrFun (split (W4 m ρ c)) _) _).trans (v64 (last46 m ρ c) (last56 m ρ c) p j)

/-- The suppression call's transposed box rows. -/
theorem w5_65 (p : Fin 1024) (j : Fin 8) : W5 m ρ c (Proc.devRef .tc main_v65) (ix2 j p) = rowsOf (scM m c) (deM m c) p.val ⟨j.val, by omega⟩ :=
  (congrFun (congrFun (split (W4 m ρ c)) _) _).trans (v65 (last46 m ρ c) (last56 m ρ c) p j)

/-- The suppression call's corners and extents. -/
theorem w5_68 (p : Fin 1024) (k : Fin 4) : W5 m ρ c (Proc.devRef .tc main_v68) (ix2 p k) = rowsOf (scM m c) (deM m c) p.val (outCol k) :=
  (congrFun (congrFun (split (W4 m ρ c)) _) _).trans (v68 (last46 m ρ c) (last56 m ρ c) p k)

theorem blk0 (t : Fin cfg1.grid.N) (p : Fin 1024) (j : Fin 8) :
    iblk1 (V5 m ρ) c 0 t (ix2 p j) = rowsOf (scM m c) (deM m c) p.val ⟨j.val, by omega⟩ := by
  refine Eq.trans ?_ (w5_64 m ρ c p j)
  blk_simp [iblk1]
  refine congrArg (V5 m ρ c main_v64) (funext fun a => Fin.ext ?_)
  blk_simp
  show 0 * win1_0.size a + _ = _
  rw [Nat.zero_mul, Nat.zero_add]

theorem blk1 (t : Fin cfg1.grid.N) (p : Fin 1024) (j : Fin 8) :
    iblk1 (V5 m ρ) c 1 t (ix2 j p) = rowsOf (scM m c) (deM m c) p.val ⟨j.val, by omega⟩ := by
  refine Eq.trans ?_ (w5_65 m ρ c p j)
  blk_simp [iblk1]
  refine congrArg (V5 m ρ c main_v65) (funext fun a => Fin.ext ?_)
  blk_simp
  show 0 * win1_1.size a + _ = _
  rw [Nat.zero_mul, Nat.zero_add]

theorem blk2 (t : Fin cfg1.grid.N) (p : Fin 1024) (k : Fin 4) :
    iblk1 (V5 m ρ) c 2 t (ix2 p k) = rowsOf (scM m c) (deM m c) p.val (outCol k) := by
  refine Eq.trans ?_ (w5_68 m ρ c p k)
  blk_simp [iblk1]
  refine congrArg (V5 m ρ c main_v68) (funext fun a => Fin.ext ?_)
  blk_simp
  show 0 * win1_2.size a + _ = _
  rw [Nat.zero_mul, Nat.zero_add]

/-- The suppression call's result array after it. -/
theorem w6 (r : Fin 304) (k : Fin 4) : W6 m ρ c (Proc.devRef .tc main_v69) (ix2 r k)
    = if r.val < 300 then val (scM m c) (deM m c) r.val k else 0 := by
  refine (congrFun (W6_arr m ρ c 3) _).trans ?_
  revert r k
  suffices h : (dat1 (V5 m ρ) c).arrAt 3 cfg1.N = fun i => if (i 0).val < 300 then val (scM m c) (deM m c) (i 0).val (i 1) else 0 from
    fun r k => congrFun h (ix2 r k)
  refine (dat1 (V5 m ρ) c).arrAt_eq_of_covers 3 _ (by decide +kernel) fun t hf y => ?_
  blk_simp
  rw [after1_3]
  have e : (win1_3.blk t).view.emb y = y := by
    funext a
    apply Fin.ext
    blk_simp
    show 0 * win1_3.size a + _ = _
    rw [Nat.zero_mul, Nat.zero_add]
  rw [e]
  obtain ⟨r, k, rfl⟩ : ∃ (r : Fin 304) (k : Fin 4), y = ix2 r k := ⟨y 0, y 1, by funext a; fin_cases a <;> rfl⟩
  show _ = if 0 * 304 + r.val < 300 then val (scM m c) (deM m c) (0 * 304 + r.val) k else 0
  simp only [Nat.zero_mul, Nat.zero_add]
  unfold outsAt1
  exact KerNms.result c _ _ _ _ _ _ ⟨blk0 m ρ c t, fun j p => blk1 m ρ c t p j⟩ _ _ _ _ _ _ _ r k _ (fun p => blk2 m ρ c t p k)
    (rows_neg (scM m c) (deM m c))

/-- The kernel's result array at the end. -/
theorem w7 (r : Fin 300) (k : Fin 4) : W7 m ρ c (Proc.devRef .tc main_v71) (ix3 0 r k) = val (scM m c) (deM m c) r.val k := by
  show StableHlo.after hostOps2 (W6 m ρ c) (Proc.devRef .tc main_v71) (ix3 0 r k) = _
  after_reads_at
  refine (w6 m ρ c ⟨r.val, by omega⟩ k).trans (if_pos r.isLt)

open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- The kernel runs; its result array ends at the last fold's contents, its arguments as they started, and every counter
    at zero. -/
theorem run : θ_run defs (onTc (τ := τ) (main (F := Ideal))) ⟨m, fun _ => 0, ρ⟩ (fun r => (∀ c : Dev nD,
      r.2.mem ((c.tc : Thread nD τ).loc main_v71) = W7 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v71 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩), funext fun g => hz g (.inr (no_unscoped g.2))⟩)

end Cert.KerRun
-- ==== Proof.RefRun.lean ====
/-
  The reference program's run: @main's host operations before the suppression loop, its 1000 trips, and the operations
  after it, from any memory with zero counters; what the arguments, the result and the counters end as.
-/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 16384

noncomputable section

namespace Cert.RefRun

open Idealize.ShloMosaic Idealize.ShloMosaic.StableHlo Idealize.SL.Sem Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- A buffer that no operation of the program writes ends as it was at the launch. -/
theorem final_of_unwritten (c : Dev nD) (b : Ref sig .tc)
    (hpre : ∀ V : Valuation τ sig (Elt F), afterL preI V (Proc.devRef .tc b) = V (Proc.devRef .tc b))
    (hbody : ∀ V : Valuation τ sig (Elt F), afterL bodyI (after condOps V) (Proc.devRef .tc b) = V (Proc.devRef .tc b))
    (hcond : ∀ V : Valuation τ sig (Elt F), after condOps V (Proc.devRef .tc b) = V (Proc.devRef .tc b))
    (hpost : ∀ V : Valuation τ sig (Elt F), afterL postI V (Proc.devRef .tc b) = V (Proc.devRef .tc b)) :
    finalContents condOps preI bodyI postI 1000 m c (Proc.devRef .tc b) = m ((c.tc : Thread nD τ).loc b) := by
  have hk : ∀ k, atK m k c (Proc.devRef .tc b) = m ((c.tc : Thread nD τ).loc b) := by
    intro k
    induction k with
    | zero => exact hpre _
    | succ k ih => rw [show atK m (k + 1) c = afterL bodyI (after condOps (atK m k c)) from rfl, hbody, ih]
  rw [show finalContents condOps preI bodyI postI 1000 m c = afterL postI (after condOps (atK m 1000 c)) from rfl,
    hpost, hcond, hk]

/-- The first argument ends as it started. -/
theorem final_arg0 (c : Dev nD) :
    finalContents condOps preI bodyI postI 1000 m c (Proc.devRef .tc main_arg0) = m ((c.tc : Thread nD τ).loc main_arg0) := by
  refine final_of_unwritten m c main_arg0 (fun V => ?_) (fun V => ?_) (fun V => ?_) (fun V => ?_) <;>
    (try simp only [afterL_cons, afterL_nil]) <;> (after_reads_simp)

/-- The second argument ends as it started. -/
theorem final_arg1 (c : Dev nD) :
    finalContents condOps preI bodyI postI 1000 m c (Proc.devRef .tc main_arg1) = m ((c.tc : Thread nD τ).loc main_arg1) := by
  refine final_of_unwritten m c main_arg1 (fun V => ?_) (fun V => ?_) (fun V => ?_) (fun V => ?_) <;>
    (try simp only [afterL_cons, afterL_nil]) <;> (after_reads_simp)

/-- The third argument ends as it started. -/
theorem final_arg2 (c : Dev nD) :
    finalContents condOps preI bodyI postI 1000 m c (Proc.devRef .tc main_arg2) = m ((c.tc : Thread nD τ).loc main_arg2) := by
  refine final_of_unwritten m c main_arg2 (fun V => ?_) (fun V => ?_) (fun V => ?_) (fun V => ?_) <;>
    (try simp only [afterL_cons, afterL_nil]) <;> (after_reads_simp)

/-- The reference runs; its result array ends at the fold's contents, its arguments as they started, and every counter
    at zero. -/
theorem run : θ_run (defs (F := F)) (onTc (τ := τ) (main (F := F))) ⟨m, fun _ => 0, ρ⟩ (fun r => (∀ c : Dev nD,
      r.2.mem ((c.tc : Thread nD τ).loc main_v216) = finalContents condOps preI bodyI postI 1000 m c (Proc.devRef .tc main_v216)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Idealize.ShloMosaic.θ_run_mono (run_fold m ρ) fun r h => ⟨fun c => ⟨h c _ (by decide), ?_, ?_, ?_⟩, sem_eq_zero_of_no_sems (by decide) _⟩
  · exact (h c _ (by decide)).trans (final_arg0 m c)
  · exact (h c _ (by decide)).trans (final_arg1 m c)
  · exact (h c _ (by decide)).trans (final_arg2 m c)

end Cert.RefRun

end
-- ==== Proof.RefBoxes.lean ====
/-
  The reference's boxes and masked scores, as the boxes of the problem.
-/
module

public import proofs.«01_k».proof.Proof.Gen.ReferenceIdeal.Run
public import proofs.«01_k».proof.Proof.Spec
public import Idealize.ShloMosaic.Lib.Pointwise
public import Idealize.ShloMosaic.Lib.StableHlo.ReadAt

@[expose] public section

set_option maxRecDepth 16384

noncomputable section

namespace Cert.RefBoxes

open Idealize.ShloMosaic Idealize.ShloMosaic.TcCoe
open Cert.ReferenceIdeal Cert.ReferenceIdeal.Gen Cert.Spec

/-- A sixteenth of an anchor's width in pixels is its width in cells. -/
theorem width (a : Fin 9) : Ideal.div (Ideal.ofBits .f32 (lit0 (S9x2.rowMajor (ix2 a 0)))) (Ideal.ofBits .f32 0x41800000#32) = sideW a.val := by
  fin_cases a
  · show Ideal.div (Ideal.ofBits .f32 (lit0 0)) (Ideal.ofBits .f32 0x41800000#32) = lit 0x40800000#32
    simp [lit0, Ideal.ofBits, Ideal.ieee, Ideal.div, -EReal.coe_mul]
    rw [← EReal.coe_inv, ← EReal.coe_mul]
    norm_num
  · show Ideal.div (Ideal.ofBits .f32 (lit0 2)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 4)) (Ideal.ofBits .f32 0x41800000#32) = lit 0x41800000#32
    simp [lit0, Ideal.ofBits, Ideal.ieee, Ideal.div, -EReal.coe_mul]
    rw [← EReal.coe_inv, ← EReal.coe_mul]
    norm_num
  · show Ideal.div (Ideal.ofBits .f32 (lit0 6)) (Ideal.ofBits .f32 0x41800000#32) = lit 0x40800000#32
    simp [lit0, Ideal.ofBits, Ideal.ieee, Ideal.div, -EReal.coe_mul]
    rw [← EReal.coe_inv, ← EReal.coe_mul]
    norm_num
  · show Ideal.div (Ideal.ofBits .f32 (lit0 8)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 10)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 12)) (Ideal.ofBits .f32 0x41800000#32) = lit 0x41800000#32
    simp [lit0, Ideal.ofBits, Ideal.ieee, Ideal.div, -EReal.coe_mul]
    rw [← EReal.coe_inv, ← EReal.coe_mul]
    norm_num
  · show Ideal.div (Ideal.ofBits .f32 (lit0 14)) (Ideal.ofBits .f32 0x41800000#32) = lit 0x41800000#32
    simp [lit0, Ideal.ofBits, Ideal.ieee, Ideal.div, -EReal.coe_mul]
    rw [← EReal.coe_inv, ← EReal.coe_mul]
    norm_num
  · show Ideal.div (Ideal.ofBits .f32 (lit0 16)) (Ideal.ofBits .f32 0x41800000#32) = lit 0x42000000#32
    simp [lit0, Ideal.ofBits, Ideal.ieee, Ideal.div, -EReal.coe_mul]
    rw [← EReal.coe_inv, ← EReal.coe_mul]
    norm_num

/-- A sixteenth of an anchor's height in pixels is its height in cells. -/
theorem height (a : Fin 9) : Ideal.div (Ideal.ofBits .f32 (lit0 (S9x2.rowMajor (ix2 a 1)))) (Ideal.ofBits .f32 0x41800000#32) = sideH a.val := by
  fin_cases a
  · show Ideal.div (Ideal.ofBits .f32 (lit0 1)) (Ideal.ofBits .f32 0x41800000#32) = lit 0x40800000#32
    simp [lit0, Ideal.ofBits, Ideal.ieee, Ideal.div, -EReal.coe_mul]
    rw [← EReal.coe_inv, ← EReal.coe_mul]
    norm_num
  · show Ideal.div (Ideal.ofBits .f32 (lit0 3)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 5)) (Ideal.ofBits .f32 0x41800000#32) = lit 0x41800000#32
    simp [lit0, Ideal.ofBits, Ideal.ieee, Ideal.div, -EReal.coe_mul]
    rw [← EReal.coe_inv, ← EReal.coe_mul]
    norm_num
  · show Ideal.div (Ideal.ofBits .f32 (lit0 7)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 9)) (Ideal.ofBits .f32 0x41800000#32) = lit 0x40800000#32
    simp [lit0, Ideal.ofBits, Ideal.ieee, Ideal.div, -EReal.coe_mul]
    rw [← EReal.coe_inv, ← EReal.coe_mul]
    norm_num
  · show Ideal.div (Ideal.ofBits .f32 (lit0 11)) (Ideal.ofBits .f32 0x41800000#32) = lit 0x41800000#32
    simp [lit0, Ideal.ofBits, Ideal.ieee, Ideal.div, -EReal.coe_mul]
    rw [← EReal.coe_inv, ← EReal.coe_mul]
    norm_num
  · show Ideal.div (Ideal.ofBits .f32 (lit0 13)) (Ideal.ofBits .f32 0x41800000#32) = lit 0x41000000#32
    simp [lit0, Ideal.ofBits, Ideal.ieee, Ideal.div, -EReal.coe_mul]
    rw [← EReal.coe_inv, ← EReal.coe_mul]
    norm_num
  · show Ideal.div (Ideal.ofBits .f32 (lit0 15)) (Ideal.ofBits .f32 0x41800000#32) = lit 0x42000000#32
    simp [lit0, Ideal.ofBits, Ideal.ieee, Ideal.div, -EReal.coe_mul]
    rw [← EReal.coe_inv, ← EReal.coe_mul]
    norm_num
  · show Ideal.div (Ideal.ofBits .f32 (lit0 17)) (Ideal.ofBits .f32 0x41800000#32) = lit 0x41800000#32
    simp [lit0, Ideal.ofBits, Ideal.ieee, Ideal.div, -EReal.coe_mul]
    rw [← EReal.coe_inv, ← EReal.coe_mul]
    norm_num

variable (V : Valuation τ sig (Elt Ideal))

/-- The delta of a cell's box. -/
abbrev dl (a : Fin 9) (y x : Fin 48) (k : Fin 4) : EReal :=
  V (Proc.devRef .tc main_arg1) (ix4 0 ⟨a.val * 4 + y.val / 12, by omega⟩ ⟨y.val % 12 * 4 + x.val / 12, by omega⟩ ⟨x.val % 12 * 4 + k.val, by omega⟩)

theorem v51 (a : Fin 9) (y x : Fin 48) : StableHlo.after ((hostOps0 (F := Ideal)).take 72) V (Proc.devRef .tc main_v51) (ix4 0 a y x)
    = edge x.val (sideW a.val) (dl V a y x 0) := by
  after_reads_at
  unfold StableHlo.upto
  after_reads_at
  simp only [width]
  rfl

theorem v53 (a : Fin 9) (y x : Fin 48) : StableHlo.after ((hostOps0 (F := Ideal)).take 72) V (Proc.devRef .tc main_v53) (ix4 0 a y x)
    = edge y.val (sideH a.val) (dl V a y x 1) := by
  after_reads_at
  unfold StableHlo.upto
  after_reads_at
  simp only [height]
  rfl

theorem v58 (a : Fin 9) (y x : Fin 48) : StableHlo.after ((hostOps0 (F := Ideal)).take 72) V (Proc.devRef .tc main_v58) (ix4 0 a y x)
    = extent x.val (sideW a.val) (dl V a y x 0) (dl V a y x 2) := by
  after_reads_at
  unfold StableHlo.upto
  after_reads_at
  simp only [width]
  rfl

theorem v59 (a : Fin 9) (y x : Fin 48) : StableHlo.after ((hostOps0 (F := Ideal)).take 72) V (Proc.devRef .tc main_v59) (ix4 0 a y x)
    = extent y.val (sideH a.val) (dl V a y x 1) (dl V a y x 3) := by
  after_reads_at
  unfold StableHlo.upto
  after_reads_at
  simp only [height]
  rfl

/-- The cell's anchor, row and column of a flat position. -/
abbrev an (n : Fin 20736) : Fin 9 := ⟨n.val / 2304, by omega⟩
abbrev ro (n : Fin 20736) : Fin 48 := ⟨n.val / 48 % 48, by omega⟩
abbrev co (n : Fin 20736) : Fin 48 := ⟨n.val % 48, by omega⟩

theorem t70 (n : Fin 20736) : StableHlo.after ((hostOps0 (F := Ideal)).drop 72) V (Proc.devRef .tc main_v70) (ix2 0 n)
    = IntOp.andi (BitVec.ofBool (decide (lit 0x40000000#32 ≤ V (Proc.devRef .tc main_v58) (ix4 0 (an n) (ro n) (co n)))))
        (BitVec.ofBool (decide (lit 0x40000000#32 ≤ V (Proc.devRef .tc main_v59) (ix4 0 (an n) (ro n) (co n))))) := by
  after_reads_at

theorem t71 (n : Fin 20736) (k : Fin 4) : StableHlo.after ((hostOps0 (F := Ideal)).drop 72) V (Proc.devRef .tc main_v71) (ix3 0 n k)
    = if k.val = 0 then V (Proc.devRef .tc main_v51) (ix4 0 (an n) (ro n) (co n)) else if k.val = 1 then V (Proc.devRef .tc main_v53) (ix4 0 (an n) (ro n) (co n))
      else if k.val = 2 then V (Proc.devRef .tc main_v58) (ix4 0 (an n) (ro n) (co n)) else V (Proc.devRef .tc main_v59) (ix4 0 (an n) (ro n) (co n)) := by
  after_reads_at
  unfold StableHlo.upto
  after_reads_at
  fin_cases k <;> rfl

theorem t72 (n : Fin 20736) : StableHlo.after ((hostOps0 (F := Ideal)).drop 72) V (Proc.devRef .tc main_v72) (ix2 0 n)
    = V (Proc.devRef .tc main_arg0) (ix4 0 (an n) (ro n) (co n)) := by
  after_reads_at

theorem t13 : StableHlo.after ((hostOps0 (F := Ideal)).drop 72) V (Proc.devRef .tc main_cst_13) ix0 = lit 0xFF800000#32 := by
  after_reads_at

theorem keep72 : StableHlo.after ((hostOps0 (F := Ideal)).take 72) V (Proc.devRef .tc main_arg0) = V (Proc.devRef .tc main_arg0) := by
  after_reads_simp

theorem split : StableHlo.after (hostOps0 (F := Ideal)) V = StableHlo.after ((hostOps0 (F := Ideal)).drop 72) (StableHlo.after ((hostOps0 (F := Ideal)).take 72) V) := by
  rw [← StableHlo.after_append, List.take_append_drop]

/-- Whether a box is large enough. -/
theorem m70 (n : Fin 20736) : StableHlo.after hostOps0 V (Proc.devRef .tc main_v70) (ix2 0 n) = big (deOf (V (Proc.devRef .tc main_arg1))) n := by
  refine (congrFun (congrFun (split V) _) _).trans ((t70 _ n).trans ?_)
  rw [v58, v59]
  rfl

/-- The boxes. -/
theorem m71 (n : Fin 20736) (k : Fin 4) : StableHlo.after hostOps0 V (Proc.devRef .tc main_v71) (ix3 0 n k) = prop (deOf (V (Proc.devRef .tc main_arg1))) n k := by
  refine (congrFun (congrFun (split V) _) _).trans ((t71 _ n k).trans ?_)
  rw [v51, v53, v58, v59]
  rfl

/-- The scores. -/
theorem m72 (n : Fin 20736) : StableHlo.after hostOps0 V (Proc.devRef .tc main_v72) (ix2 0 n) = scOf (V (Proc.devRef .tc main_arg0)) n := by
  refine (congrFun (congrFun (split V) _) _).trans ((t72 _ n).trans ?_)
  rw [keep72]
  rfl

theorem m13 : StableHlo.after hostOps0 V (Proc.devRef .tc main_cst_13) ix0 = lit 0xFF800000#32 :=
  (congrFun (congrFun (split V) _) _).trans (t13 _)

end Cert.RefBoxes
-- ==== Proof.RefSel.lean ====
/-
  The reference's selection of the thousand best boxes and their order by the bottom edge.
-/
module

public import proofs.«01_k».proof.Proof.RefBoxes
public import proofs.«01_k».proof.Proof.KerSel
public import proofs.«01_k».proof.Proof.Sorts
public import Idealize.ShloMosaic.Lib.Routing.Ops
public import Idealize.ShloMosaic.Lib.Routing.OpsSet
public import Idealize.ShloMosaic.Lib.Routing.OpsOne

@[expose] public section

set_option maxRecDepth 16384

noncomputable section

namespace Cert.RefSel

open Idealize.ShloMosaic Idealize.ShloMosaic.TcCoe
open Cert.ReferenceIdeal Cert.ReferenceIdeal.Gen Cert.Spec Cert.Keys Cert.KerSel Cert.Words

variable {V : Valuation τ sig (Elt Ideal)} {sc : Fin 20736 → EReal} {de : Fin 20736 → Fin 4 → EReal}

/-- The masked scores. -/
theorem v73 (h70 : ∀ n, V (Proc.devRef .tc main_v70) (ix2 0 n) = big de n) (h72 : ∀ n, V (Proc.devRef .tc main_v72) (ix2 0 n) = sc n)
    (h13 : V (Proc.devRef .tc main_cst_13) ix0 = lit 0xFF800000#32) (n : Fin 20736) :
    StableHlo.after hostOps0_1 V (Proc.devRef .tc main_v73) (ix2 0 n) = fs sc de n := by
  after_reads_at
  rw [h70, h72]
  show Scalar.select _ _ (V (Proc.devRef .tc main_cst_13) ix0) = _
  rw [h13]
  rfl

/-- The negated masked scores. -/
theorem v75 (h73 : ∀ n, V (Proc.devRef .tc main_v73) (ix2 0 n) = fs sc de n) (n : Fin 20736) :
    StableHlo.after hostOps0_2 V (Proc.devRef .tc main_v75) (ix1 n) = -fs sc de n := by
  after_reads_at
  rw [h73]

/-- The positions of a vector sorted together with it, when the comparator decides a given relation. -/
theorem sort2_perm {n : ℕ} {α : Type} (cmp : α × BitVec 32 → α × BitVec 32 → BitVec 1) (x : (⟨1, ![n]⟩ : Shape).Idx → α)
    (y : (⟨1, ![n]⟩ : Shape).Idx → BitVec 32) (hy : ∀ k : Fin n, y (ix1 k) = BitVec.ofNat 32 k.val) (R : Fin n → Fin n → Bool)
    (hR : ∀ a b, cmp (x (ix1 a), y (ix1 a)) (x (ix1 b), y (ix1 b)) = 1#1 ↔ R a b = true) (p : Fin n) :
    (Host.sort2 ⟨1, ![n]⟩ 0 cmp x y).2 (ix1 p) = BitVec.ofNat 32 (sortedFrom R p).val := by
  refine (Sorts.sort2_at _ _ _ p).trans ((hy _).trans ?_)
  refine congrArg (fun R => BitVec.ofNat 32 (sortedFrom R p).val) ?_
  funext a b
  apply Bool.eq_iff_iff.mpr
  simp only [Sorts.rel, beq_iff_eq]
  exact hR a b

/-- All positions, best first. -/
theorem v76 (h75 : ∀ n, V (Proc.devRef .tc main_v75) (ix1 n) = -fs sc de n) (p : Fin 20736) :
    StableHlo.after hostOps0_3 V (Proc.devRef .tc main_v76) (ix1 p) = BitVec.ofNat 32 (topAll sc de p).val := by
  after_reads_at
  unfold topAll
  refine sort2_perm _ _ _ (fun k => rfl) _ (fun a b => ?_) p
  rw [Sorts.lt_f32, h75, h75, decide_eq_true_eq]
  exact EReal.neg_lt_neg_iff

/-- A position made from a small word by the wrap-around of negative positions is the same position. -/
theorem wrapped {w L : BitVec 32} {m : ℕ} (h : w = BitVec.ofNat 32 m) (hm : m < 2 ^ 31) :
    Scalar.select (IntOp.cmpi .slt w 0#32) (IntOp.addi w L) w = BitVec.ofNat 32 m := by
  subst h
  exact wrap_word hm L

/-- The selected boxes' rows. -/
theorem v85 (h76 : ∀ p, V (Proc.devRef .tc main_v76) (ix1 p) = BitVec.ofNat 32 (topAll sc de p).val)
    (h71 : ∀ n k, V (Proc.devRef .tc main_v71) (ix3 0 n k) = prop de n k) (p : Fin 1000) (k : Fin 4) :
    StableHlo.after ((hostOps0_4 (F := Ideal)).take 21) V (Proc.devRef .tc main_v85) (ix2 p k) = prop de (top sc de p) k := by
  after_reads_at
  refine (Routing.gather_row (nb := 20736) (B := 4) (n := 1000) gather_S20736x4_S1000x1_S1000x4_1_0_n_n_0_1_14 rfl rfl rfl rfl rfl _ _ _ k (top sc de p) ?_ (by norm_num)).trans ?_
  · pointwise
    exact wrapped (h76 ⟨p.val, by omega⟩) (by omega)
  · pointwise
    exact h71 _ _

/-- The selected boxes' masked scores. -/
theorem v93 (h76 : ∀ p, V (Proc.devRef .tc main_v76) (ix1 p) = BitVec.ofNat 32 (topAll sc de p).val)
    (h73 : ∀ n, V (Proc.devRef .tc main_v73) (ix2 0 n) = fs sc de n) (p : Fin 1000) :
    StableHlo.after ((hostOps0_4 (F := Ideal)).take 21) V (Proc.devRef .tc main_v93) (ix1 p) = fs sc de (top sc de p) := by
  after_reads_at
  refine (Routing.gather_take1 gather_S20736_S1000x1_S1000_n_0_n_n_0_1_1 rfl rfl rfl rfl _ _ p (top sc de p) ?_ (by norm_num)).trans ?_
  · pointwise
    exact wrapped (h76 ⟨p.val, by omega⟩) (by omega)
  · pointwise
    exact h73 _

section
variable {t : Fin 1000 → Fin 20736} (h85 : ∀ p k, V (Proc.devRef .tc main_v85) (ix2 p k) = prop de (t p) k)
include h85

/-- The selected boxes' left edges. -/
theorem v95 (p : Fin 1000) : StableHlo.after ((hostOps0_4 (F := Ideal)).drop 21) V (Proc.devRef .tc main_v95) (ix1 p) = bx de (t p) := by
  after_reads_at
  exact h85 p 0

/-- Their top edges. -/
theorem v97 (p : Fin 1000) : StableHlo.after ((hostOps0_4 (F := Ideal)).drop 21) V (Proc.devRef .tc main_v97) (ix1 p) = byy de (t p) := by
  after_reads_at
  exact h85 p 1

/-- Their widths. -/
theorem v99 (p : Fin 1000) : StableHlo.after ((hostOps0_4 (F := Ideal)).drop 21) V (Proc.devRef .tc main_v99) (ix1 p) = bw de (t p) := by
  after_reads_at
  exact h85 p 2

/-- Their heights. -/
theorem v101 (p : Fin 1000) : StableHlo.after ((hostOps0_4 (F := Ideal)).drop 21) V (Proc.devRef .tc main_v101) (ix1 p) = bh de (t p) := by
  after_reads_at
  exact h85 p 3

/-- Their right edges. -/
theorem v102 (p : Fin 1000) : StableHlo.after ((hostOps0_4 (F := Ideal)).drop 21) V (Proc.devRef .tc main_v102) (ix1 p) = bx2 de (t p) := by
  after_reads_at
  exact congrArg₂ (· + ·) (h85 p 0) (h85 p 2)

/-- Their bottom edges. -/
theorem v103 (p : Fin 1000) : StableHlo.after ((hostOps0_4 (F := Ideal)).drop 21) V (Proc.devRef .tc main_v103) (ix1 p) = by2 de (t p) := by
  after_reads_at
  exact congrArg₂ (· + ·) (h85 p 1) (h85 p 3)
end

/-- The places of the selected boxes by increasing bottom edge. -/
def ys (de : Fin 20736 → Fin 4 → EReal) (t : Fin 1000 → Fin 20736) : Fin 1000 → Fin 1000 :=
  sortedFrom fun a b => decide (by2 de (t a) < by2 de (t b))

/-- The places sorted by the bottom edge. -/
theorem v104 {t : Fin 1000 → Fin 20736} (h103 : ∀ p, V (Proc.devRef .tc main_v103) (ix1 p) = by2 de (t p)) (p : Fin 1000) :
    StableHlo.after hostOps0_5 V (Proc.devRef .tc main_v104) (ix1 p) = BitVec.ofNat 32 (ys de t p).val := by
  after_reads_at
  unfold ys
  refine sort2_perm _ _ _ (fun k => rfl) _ (fun a b => ?_) p
  rw [Sorts.lt_f32, h103, h103, decide_eq_true_eq]

/-- The places by decreasing bottom edge. -/
theorem v105 {t : Fin 1000 → Fin 20736} (h104 : ∀ p, V (Proc.devRef .tc main_v104) (ix1 p) = BitVec.ofNat 32 (ys de t p).val) (p : Fin 1000) :
    StableHlo.after ((hostOps0_6 (F := Ideal)).take 1) V (Proc.devRef .tc main_v105) (ix1 p) = BitVec.ofNat 32 (ys de t p.rev).val := by
  after_reads_at
  exact h104 p.rev

section
variable {u : Fin 1000 → Fin 1000} (h105 : ∀ p, V (Proc.devRef .tc main_v105) (ix1 p) = BitVec.ofNat 32 (u p).val)
include h105

/-- The left edges in the new order. -/
theorem v112 (p : Fin 1000) :
    StableHlo.after (((hostOps0_6 (F := Ideal)).take 56).drop 1) V (Proc.devRef .tc main_v112) (ix1 p) = V (Proc.devRef .tc main_v95) (ix1 (u p)) := by
  after_reads_at
  refine (Routing.gather_take1 gather_S1000_S1000x1_S1000_n_0_n_n_0_1_1 rfl rfl rfl rfl _ _ p (u p) ?_ (by norm_num)).trans rfl
  pointwise
  exact wrapped (h105 p) (by omega)

/-- The top edges in the new order. -/
theorem v119 (p : Fin 1000) :
    StableHlo.after (((hostOps0_6 (F := Ideal)).take 56).drop 1) V (Proc.devRef .tc main_v119) (ix1 p) = V (Proc.devRef .tc main_v97) (ix1 (u p)) := by
  after_reads_at
  refine (Routing.gather_take1 gather_S1000_S1000x1_S1000_n_0_n_n_0_1_1 rfl rfl rfl rfl _ _ p (u p) ?_ (by norm_num)).trans rfl
  pointwise
  exact wrapped (h105 p) (by omega)

/-- The right edges in the new order. -/
theorem v126 (p : Fin 1000) :
    StableHlo.after (((hostOps0_6 (F := Ideal)).take 56).drop 1) V (Proc.devRef .tc main_v126) (ix1 p) = V (Proc.devRef .tc main_v102) (ix1 (u p)) := by
  after_reads_at
  refine (Routing.gather_take1 gather_S1000_S1000x1_S1000_n_0_n_n_0_1_1 rfl rfl rfl rfl _ _ p (u p) ?_ (by norm_num)).trans rfl
  pointwise
  exact wrapped (h105 p) (by omega)

/-- The bottom edges in the new order. -/
theorem v133 (p : Fin 1000) :
    StableHlo.after (((hostOps0_6 (F := Ideal)).take 56).drop 1) V (Proc.devRef .tc main_v133) (ix1 p) = V (Proc.devRef .tc main_v103) (ix1 (u p)) := by
  after_reads_at
  refine (Routing.gather_take1 gather_S1000_S1000x1_S1000_n_0_n_n_0_1_1 rfl rfl rfl rfl _ _ p (u p) ?_ (by norm_num)).trans rfl
  pointwise
  exact wrapped (h105 p) (by omega)

/-- The masked scores in the new order. -/
theorem v148 (p : Fin 1000) :
    StableHlo.after (((hostOps0_6 (F := Ideal)).take 56).drop 1) V (Proc.devRef .tc main_v148) (ix1 p) = V (Proc.devRef .tc main_v93) (ix1 (u p)) := by
  after_reads_at
  refine (Routing.gather_take1 gather_S1000_S1000x1_S1000_n_0_n_n_0_1_1 rfl rfl rfl rfl _ _ p (u p) ?_ (by norm_num)).trans rfl
  pointwise
  exact wrapped (h105 p) (by omega)

/-- The areas in the new order. -/
theorem v141 (p : Fin 1000) :
    StableHlo.after (((hostOps0_6 (F := Ideal)).take 56).drop 1) V (Proc.devRef .tc main_v141) (ix1 p)
      = HMul.hMul (α := EReal) (β := EReal) (γ := EReal) (V (Proc.devRef .tc main_v99) (ix1 (u p))) (V (Proc.devRef .tc main_v101) (ix1 (u p))) := by
  after_reads_at
  refine (Routing.gather_take1 gather_S1000_S1000x1_S1000_n_0_n_n_0_1_1 rfl rfl rfl rfl _ _ p (u p) ?_ (by norm_num)).trans rfl
  pointwise
  exact wrapped (h105 p) (by omega)
end

end Cert.RefSel
-- ==== Proof.RefPair.lean ====
/-
  The reference's table of pairwise overlaps and its loop's starting values.
-/
module

public import proofs.«01_k».proof.Proof.RefSel
public import proofs.«01_k».proof.Proof.Result

@[expose] public section

set_option maxRecDepth 16384

noncomputable section

namespace Cert.RefPair

open Idealize.ShloMosaic Idealize.ShloMosaic.TcCoe
open Cert.ReferenceIdeal Cert.ReferenceIdeal.Gen Cert.Spec Cert.Keys Cert.KerSel Cert.Words

variable {V : Valuation τ sig (Elt Ideal)} {box : ℕ → Fin 9 → EReal}

/-- The overlap of every two boxes, over the second one's area. -/
theorem v189_1 (h112 : ∀ p : Fin 1000, V (Proc.devRef .tc main_v112) (ix1 p) = box p.val 0) (h119 : ∀ p : Fin 1000, V (Proc.devRef .tc main_v119) (ix1 p) = box p.val 1)
    (h126 : ∀ p : Fin 1000, V (Proc.devRef .tc main_v126) (ix1 p) = box p.val 2) (h133 : ∀ p : Fin 1000, V (Proc.devRef .tc main_v133) (ix1 p) = box p.val 3)
    (h141 : ∀ p : Fin 1000, V (Proc.devRef .tc main_v141) (ix1 p) = box p.val 4) (i j : Fin 1000) :
    StableHlo.after ((hostOps0_6 (F := Ideal)).drop 56) V (Proc.devRef .tc main_v189_1) (ix2 i j) = Nms.ov box i.val j.val := by
  after_reads_at
  show Host.divf _ _ (ix2 i j) = _
  pointwise
  rw [h112, h119, h126, h133, h112, h119, h126, h133, h141]
  rfl

/-- Which boxes are valid, at the start. -/
theorem v189_3 (sc : Fin 20736 → EReal) (de : Fin 20736 → Fin 4 → EReal) (f : Fin 1000 → Fin 20736)
    (h148 : ∀ p : Fin 1000, V (Proc.devRef .tc main_v148) (ix1 p) = fs sc de (f p)) (hsc : ∀ n, 0 ≤ sc n ∧ sc n < ⊤)
    (hf : ∀ p : Fin 1000, box p.val 5 = fsFin sc de (f p)) (j : Fin 1000) :
    StableHlo.after ((hostOps0_6 (F := Ideal)).drop 56) V (Proc.devRef .tc main_v189_3) (ix1 j) = BitVec.ofBool (Nms.km box 0 j.val) := by
  after_reads_at
  show cmpf .olt _ _ (ix1 j) = _
  pointwise
  rw [h148]
  unfold Nms.km
  refine congrArg BitVec.ofBool (decide_eq_decide.mpr ?_)
  rw [hf, keep_iff sc de hsc]
  show max _ _ < lit 0x7F800000#32 ↔ _
  rw [lit_inf]

/-- The loop counts from zero. -/
theorem v189_2 : StableHlo.after ((hostOps0_6 (F := Ideal)).drop 56) V (Proc.devRef .tc main_v189_2) ix0 = 0#32 := by
  after_reads_at
  rfl

/-- The loop walks over the places in order. -/
theorem v189_0 (j : Fin 1000) :
    StableHlo.after ((hostOps0_6 (F := Ideal)).drop 56) V (Proc.devRef .tc main_v189_0) (ix1 j) = BitVec.ofNat 32 j.val := by
  after_reads_at
  rfl

end Cert.RefPair
-- ==== Proof.RefLoop.lean ====
/-
  One trip of the reference's suppression loop, and all its trips.
-/
module

public import proofs.«01_k».proof.Proof.RefPair
public import proofs.«01_k».proof.Proof.Gen.ReferenceIdeal.Run

@[expose] public section

set_option maxRecDepth 16384

noncomputable section

namespace Cert.RefLoop

open Idealize.ShloMosaic Idealize.ShloMosaic.TcCoe
open Cert.ReferenceIdeal Cert.ReferenceIdeal.Gen Cert.ReferenceIdeal.Value Cert.Spec Cert.Words
open Idealize.ShloMosaic.StableHlo

variable {box : ℕ → Fin 9 → EReal} {k : Fin 1000}

/-- The one index of an array without axes. -/
theorem first_eq (h : 0 < S_.numel) : Shape.Idx.first h = ix0 := funext fun a => a.elim0

/-- A one-entry slice of a vector at a place. -/
theorem slice_one {α : Type} (x : S1000.Idx → α) (st : Fin 1 → Int) (hst : st 0 = (k.val : Int)) (h : S1000.Slices (fun _ => 0) S1) (i : S1.Idx) :
    Host.dynamicSlice S1 x st h i = x (ix1 k) := by
  have hk : S1000.Slices (fun _ => k.val) S1 := ⟨rfl, fun a => by fin_cases a; show k.val + 1 ≤ 1000; omega⟩
  rw [WordCmp.dynamicSlice_eq_extract S1 x st h (fun _ => k.val) hk (fun a => by fin_cases a; exact hst)]
  refine congrArg x ?_
  funext a
  fin_cases a
  apply Fin.ext
  have : (i 0).val = 0 := by have := (i 0).isLt; change (i 0).val < 1 at this; omega
  show k.val + (i 0).val = k.val
  omega

/-- A row of a matrix at a place. -/
theorem slice_row {α : Type} (x : S1000x1000.Idx → α) (st : Fin 2 → Int) (h0 : st 0 = (k.val : Int)) (h1 : st 1 = 0)
    (h : S1000x1000.Slices (fun _ => 0) S1x1000) (j : Fin 1000) :
    Host.dynamicSlice S1x1000 x st h (ix2 0 j) = x (ix2 k j) := by
  have hk : S1000x1000.Slices (![k.val, 0]) S1x1000 := ⟨rfl, fun a => by
    fin_cases a
    · show k.val + 1 ≤ 1000; omega
    · show 0 + 1000 ≤ 1000; omega⟩
  rw [WordCmp.dynamicSlice_eq_extract S1x1000 x st h ![k.val, 0] hk (fun a => by
    fin_cases a
    · exact h0
    · exact h1)]
  refine congrArg x ?_
  funext a
  fin_cases a
  · rfl
  · apply Fin.ext
    show 0 + j.val = j.val
    omega

/-- The suppression with the box's own place cleared. -/
theorem clear_at (x : S1000.Idx → BitVec 1) (i : IVec S1 32) (hi : i (ix1 0) = BitVec.ofNat 32 k.val) (j : Fin 1000) :
    Host.scatter scatter_S1000_S1_S__n_0_0_0 (fun _ b => b) x i (constantI S_ 1 0#1) (ix1 j)
      = if j = k then 0#1 else x (ix1 j) := by
  have hl := fun e : Fin 1000 => Routing.lands_one scatter_S1000_S1_S__n_0_0_0 rfl rfl i k ((congrArg BitVec.toInt hi).trans (toInt_small (by omega))) e
  by_cases h : j = k
  · rw [if_pos h]
    exact Routing.scatter_set_hit _ _ _ _ _ _ (fun _ _ => rfl) ix0 ((hl j).mpr h)
  · rw [if_neg h]
    refine Routing.scatter_set_miss _ _ _ _ _ fun q hq => h ((hl j).mp ?_)
    rw [show q = ix0 from funext fun a => a.elim0] at hq
    exact hq

/-- One trip's flags. -/
theorem trip_at (ov : S1000x1000.Idx → EReal) (km : S1000.Idx → BitVec 1) (st1 : Fin 2 → Int) (st2 : Fin 1 → Int) (i : IVec S1 32)
    (hov : ∀ a b : Fin 1000, ov (ix2 a b) = Nms.ov box a.val b.val) (hkm : ∀ j : Fin 1000, km (ix1 j) = BitVec.ofBool (Nms.km box k.val j.val))
    (h10 : st1 0 = (k.val : Int)) (h11 : st1 1 = 0) (h2 : st2 0 = (k.val : Int)) (hi : i (ix1 0) = BitVec.ofNat 32 k.val)
    (g1 : S1000x1000.Slices (fun _ => 0) S1x1000) (g2 : S1000.Slices (fun _ => 0) S1) (j : Fin 1000) :
    andi km (noti (Host.scatter scatter_S1000_S1_S__n_0_0_0 (fun _ b => b)
      (andi (cmpf (F := Ideal) (φ := .f32) .oge (shapeCast S1000 (Host.dynamicSlice S1x1000 ov st1 g1) shapeCasts_S1x1000_S1000)
          (broadcastInDim S1000 ![] bcast_S_S1000 (constant S_ .f32 0x3F333333#32)))
        (broadcastInDim S1000 ![] bcast_S_S1000 (shapeCast S_ (Host.dynamicSlice S1 km st2 g2) shapeCasts_S1_S_))) i (constantI S_ 1 0#1))) (ix1 j)
      = BitVec.ofBool (Nms.km box (k.val + 1) j.val) := by
  have e1 := slice_row ov st1 h10 h11 g1
  have e2 := slice_one km st2 h2 g2
  generalize Host.dynamicSlice S1x1000 ov st1 g1 = X at e1 ⊢
  generalize Host.dynamicSlice S1 km st2 g2 = Y at e2 ⊢
  have e3 := clear_at (andi (cmpf (F := Ideal) (φ := .f32) .oge (shapeCast S1000 X shapeCasts_S1x1000_S1000)
          (broadcastInDim S1000 ![] bcast_S_S1000 (constant S_ .f32 0x3F333333#32)))
        (broadcastInDim S1000 ![] bcast_S_S1000 (shapeCast S_ Y shapeCasts_S1_S_))) i hi j
  show IntOp.andi (km (ix1 j)) (~~~ (Host.scatter _ _ _ _ _ (ix1 j))) = _
  rw [e3, hkm]
  have e4 : (andi (cmpf (F := Ideal) (φ := .f32) .oge (shapeCast S1000 X shapeCasts_S1x1000_S1000)
          (broadcastInDim S1000 ![] bcast_S_S1000 (constant S_ .f32 0x3F333333#32)))
        (broadcastInDim S1000 ![] bcast_S_S1000 (shapeCast S_ Y shapeCasts_S1_S_))) (ix1 j)
      = BitVec.ofBool (decide (lit 0x3F333333#32 ≤ Nms.ov box k.val j.val) && Nms.km box k.val k.val) := by
    pointwise
    rw [e1, e2, hov, hkm]
    generalize Nms.km box k.val k.val = b
    show IntOp.andi (BitVec.ofBool (decide (lit 0x3F333333#32 ≤ Nms.ov box k.val j.val))) _ = _
    cases b <;> cases decide (lit 0x3F333333#32 ≤ Nms.ov box k.val j.val) <;> rfl
  rw [e4]
  show _ = BitVec.ofBool (Nms.km box k.val j.val && !(decide (lit 0x3F333333#32 ≤ Nms.ov box k.val j.val) && Nms.km box k.val k.val && decide (j.val ≠ k.val)))
  generalize Nms.km box k.val k.val = b
  generalize Nms.km box k.val j.val = b'
  generalize decide (lit 0x3F333333#32 ≤ Nms.ov box k.val j.val) = b''
  by_cases h : j = k
  · subst h
    rw [if_pos rfl, show decide (j.val ≠ j.val) = false by simp]
    cases b <;> cases b' <;> cases b'' <;> rfl
  · rw [if_neg h, show decide (j.val ≠ k.val) = true from decide_eq_true fun e => h (Fin.ext e)]
    cases b <;> cases b' <;> cases b'' <;> rfl

/-- What the loop carries before trip `k`. -/
structure Inv (box : ℕ → Fin 9 → EReal) (k : ℕ) (X : Valuation τ sig (Elt Ideal)) : Prop where
  h0 : ∀ j : Fin 1000, X (Proc.devRef .tc main_v189_0) (ix1 j) = BitVec.ofNat 32 j.val
  h1 : ∀ i j : Fin 1000, X (Proc.devRef .tc main_v189_1) (ix2 i j) = Nms.ov box i.val j.val
  h2 : X (Proc.devRef .tc main_v189_2) ix0 = BitVec.ofNat 32 k
  h3 : ∀ j : Fin 1000, X (Proc.devRef .tc main_v189_3) (ix1 j) = BitVec.ofBool (Nms.km box k j.val)

/-- The place whose turn it is. -/
theorem turn {X : Valuation τ sig (Elt Ideal)} (h : Inv box k.val X) : res_main_while0b_v217 X ix0 = BitVec.ofNat 32 k.val := by
  unfold res_main_while0b_v217
  have e := slice_one (k := k) (X (Proc.devRef .tc main_v189_0))
    (fun k => (((![X (Proc.devRef .tc main_v189_2)] : Fin 1 → (⟨S_, .i32⟩ : BufTy).Contents (Elt Ideal))) k (Shape.Idx.first h_S_)).toInt)
    (by
      show (X (Proc.devRef .tc main_v189_2) (Shape.Idx.first h_S_)).toInt = _
      rw [first_eq, h.h2, toInt_small (by omega)]) sliceFits_S1000_S1
  exact (e _).trans (h.h0 k)

/-- The wrapped place. -/
theorem turn_wrapped {X : Valuation τ sig (Elt Ideal)} (h : Inv box k.val X) :
    select (cmpi .slt (res_main_while0b_v217 X) (constantI S_ 32 0#32)) (addi (res_main_while0b_v217 X) (constantI S_ 32 1000#32)) (res_main_while0b_v217 X) ix0
      = BitVec.ofNat 32 k.val :=
  RefSel.wrapped (turn h) (by omega)

/-- One trip keeps what the loop carries. -/
theorem step {X : Valuation τ sig (Elt Ideal)} (h : Inv box k.val X) : Inv box (k.val + 1) (STEP X) where
  h0 j := by rw [STEP_main_v189_0]; exact h.h0 j
  h1 i j := by rw [STEP_main_v189_1]; exact h.h1 i j
  h2 := by
    rw [STEP_main_v189_2]
    refine (congrArg (fun w : BitVec 32 => w + 1#32) h.h2).trans ?_
    exact (BitVec.ofNat_add ..).symm
  h3 j := by
    rw [STEP_main_v189_3]
    unfold step_main_v189_3
    refine trip_at (k := k) (X (Proc.devRef .tc main_v189_1)) (X (Proc.devRef .tc main_v189_3)) _ _ _ h.h1 h.h3 ?_ ?_ ?_ ?_ _ _ j
    · show BitVec.toInt (select _ _ _ (Shape.Idx.first h_S_)) = _
      rw [first_eq, turn_wrapped h, toInt_small (by omega)]
    · rfl
    · show BitVec.toInt (select _ _ _ (Shape.Idx.first h_S_)) = _
      rw [first_eq, turn_wrapped h, toInt_small (by omega)]
    · refine Eq.trans ?_ (turn_wrapped h)
      pointwise

/-- All trips so far. -/
theorem trips {X : Valuation τ sig (Elt Ideal)} (h : Inv box 0 X) : ∀ n ≤ 1000, Inv box n (STEP^[n] X)
  | 0, _ => h
  | n + 1, hn => by
    rw [Function.iterate_succ_apply']
    exact step (k := ⟨n, by omega⟩) (trips h n (by omega))

/-- One trip leaves the order alone. -/
theorem keep105 (X : Valuation τ sig (Elt Ideal)) : afterL bodyI (StableHlo.after condOps X) (Proc.devRef .tc main_v105) = X (Proc.devRef .tc main_v105) := by
  simp only [bodyI, afterL_cons, afterL_nil]
  after_reads_simp

/-- One trip leaves the selected rows alone. -/
theorem keep85 (X : Valuation τ sig (Elt Ideal)) : afterL bodyI (StableHlo.after condOps X) (Proc.devRef .tc main_v85) = X (Proc.devRef .tc main_v85) := by
  simp only [bodyI, afterL_cons, afterL_nil]
  after_reads_simp

variable (m : (ℓ : Loc nD τ sig) → Buf (Elt Ideal) ℓ) (c : Dev nD)

/-- The order after `n` trips. -/
theorem atK105 : ∀ n, atK m n c (Proc.devRef .tc main_v105) = entryContents preI m c (Proc.devRef .tc main_v105)
  | 0 => rfl
  | n + 1 => (keep105 (atK m n c)).trans (atK105 n)

/-- The selected rows after `n` trips. -/
theorem atK85 : ∀ n, atK m n c (Proc.devRef .tc main_v85) = entryContents preI m c (Proc.devRef .tc main_v85)
  | 0 => rfl
  | n + 1 => (keep85 (atK m n c)).trans (atK85 n)

/-- The flags after `n` trips. -/
theorem atK189 (h : Inv box 0 (entryContents preI m c)) (n : ℕ) (hn : n ≤ 1000) (j : Fin 1000) :
    atK m n c (Proc.devRef .tc main_v189_3) (ix1 j) = BitVec.ofBool (Nms.km box n j.val) :=
  (congrFun (atK_agree m c n main_v189_3 (by decide)) (ix1 j)).trans ((trips h n hn).h3 j)

end Cert.RefLoop
-- ==== Proof.RefEntry.lean ====
/-
  The reference up to its loop: the boxes in the order of the suppression and the loop's first state.
-/
module

public import proofs.«01_k».proof.Proof.RefLoop
public import proofs.«01_k».proof.Proof.Order

@[expose] public section

set_option maxRecDepth 16384

noncomputable section

namespace Cert.RefEntry

open Idealize.ShloMosaic Idealize.ShloMosaic.TcCoe
open Cert.ReferenceIdeal Cert.ReferenceIdeal.Gen Cert.ReferenceIdeal.Value Cert.Spec Cert.Keys Cert.KerSel Cert.Words Cert.RefSel Cert.Result
open Idealize.ShloMosaic.StableHlo

variable (V : Valuation τ sig (Elt Ideal)) {sc : Fin 20736 → EReal} {de : Fin 20736 → Fin 4 → EReal}

/-- A list of operations in two parts. -/
theorem halves (ops : List (HloOp τ sig (Elt Ideal))) (n : ℕ) : after ops V = after (ops.drop n) (after (ops.take n) V) := by
  rw [← after_append, List.take_append_drop]

/-- A list of operations in three parts. -/
theorem thirds (ops : List (HloOp τ sig (Elt Ideal))) (n k : ℕ) (h : k ≤ n) :
    after ops V = after (ops.drop n) (after ((ops.take n).drop k) (after (ops.take k) V)) := by
  rw [halves V ops n, halves V (ops.take n) k, List.take_take, Nat.min_eq_left h]

/-- The decoded boxes stay. -/
theorem k71a : after (hostOps0_1 (F := Ideal)) V (Proc.devRef .tc main_v71) = V (Proc.devRef .tc main_v71) := by
  after_reads_simp

/-- The decoded boxes stay. -/
theorem k71b : after (hostOps0_2 (F := Ideal)) V (Proc.devRef .tc main_v71) = V (Proc.devRef .tc main_v71) := by
  after_reads_simp

/-- The decoded boxes stay. -/
theorem k71c : after (hostOps0_3 (F := Ideal)) V (Proc.devRef .tc main_v71) = V (Proc.devRef .tc main_v71) := by
  after_reads_simp

/-- The masked scores stay. -/
theorem k73b : after (hostOps0_2 (F := Ideal)) V (Proc.devRef .tc main_v73) = V (Proc.devRef .tc main_v73) := by
  after_reads_simp

/-- The masked scores stay. -/
theorem k73c : after (hostOps0_3 (F := Ideal)) V (Proc.devRef .tc main_v73) = V (Proc.devRef .tc main_v73) := by
  after_reads_simp

/-- The selected rows stay. -/
theorem k85d : after ((hostOps0_4 (F := Ideal)).drop 21) V (Proc.devRef .tc main_v85) = V (Proc.devRef .tc main_v85) := by
  after_reads_simp

/-- The selected rows stay. -/
theorem k85e : after (hostOps0_5 (F := Ideal)) V (Proc.devRef .tc main_v85) = V (Proc.devRef .tc main_v85) := by
  after_reads_simp

/-- The selected rows stay. -/
theorem k85f : after ((hostOps0_6 (F := Ideal)).take 1) V (Proc.devRef .tc main_v85) = V (Proc.devRef .tc main_v85) := by
  after_reads_simp

/-- The selected rows stay. -/
theorem k85g : after (((hostOps0_6 (F := Ideal)).take 56).drop 1) V (Proc.devRef .tc main_v85) = V (Proc.devRef .tc main_v85) := by
  after_reads_simp

/-- The selected rows stay. -/
theorem k85h : after ((hostOps0_6 (F := Ideal)).drop 56) V (Proc.devRef .tc main_v85) = V (Proc.devRef .tc main_v85) := by
  after_reads_simp

/-- The selected scores stay. -/
theorem k93d : after ((hostOps0_4 (F := Ideal)).drop 21) V (Proc.devRef .tc main_v93) = V (Proc.devRef .tc main_v93) := by
  after_reads_simp

/-- The selected scores stay. -/
theorem k93e : after (hostOps0_5 (F := Ideal)) V (Proc.devRef .tc main_v93) = V (Proc.devRef .tc main_v93) := by
  after_reads_simp

/-- The selected scores stay. -/
theorem k93f : after ((hostOps0_6 (F := Ideal)).take 1) V (Proc.devRef .tc main_v93) = V (Proc.devRef .tc main_v93) := by
  after_reads_simp

/-- The left edges stay. -/
theorem k95e : after (hostOps0_5 (F := Ideal)) V (Proc.devRef .tc main_v95) = V (Proc.devRef .tc main_v95) := by
  after_reads_simp

/-- The left edges stay. -/
theorem k95f : after ((hostOps0_6 (F := Ideal)).take 1) V (Proc.devRef .tc main_v95) = V (Proc.devRef .tc main_v95) := by
  after_reads_simp

/-- The top edges stay. -/
theorem k97e : after (hostOps0_5 (F := Ideal)) V (Proc.devRef .tc main_v97) = V (Proc.devRef .tc main_v97) := by
  after_reads_simp

/-- The top edges stay. -/
theorem k97f : after ((hostOps0_6 (F := Ideal)).take 1) V (Proc.devRef .tc main_v97) = V (Proc.devRef .tc main_v97) := by
  after_reads_simp

/-- The widths stay. -/
theorem k99e : after (hostOps0_5 (F := Ideal)) V (Proc.devRef .tc main_v99) = V (Proc.devRef .tc main_v99) := by
  after_reads_simp

/-- The widths stay. -/
theorem k99f : after ((hostOps0_6 (F := Ideal)).take 1) V (Proc.devRef .tc main_v99) = V (Proc.devRef .tc main_v99) := by
  after_reads_simp

/-- The heights stay. -/
theorem k101e : after (hostOps0_5 (F := Ideal)) V (Proc.devRef .tc main_v101) = V (Proc.devRef .tc main_v101) := by
  after_reads_simp

/-- The heights stay. -/
theorem k101f : after ((hostOps0_6 (F := Ideal)).take 1) V (Proc.devRef .tc main_v101) = V (Proc.devRef .tc main_v101) := by
  after_reads_simp

/-- The right edges stay. -/
theorem k102e : after (hostOps0_5 (F := Ideal)) V (Proc.devRef .tc main_v102) = V (Proc.devRef .tc main_v102) := by
  after_reads_simp

/-- The right edges stay. -/
theorem k102f : after ((hostOps0_6 (F := Ideal)).take 1) V (Proc.devRef .tc main_v102) = V (Proc.devRef .tc main_v102) := by
  after_reads_simp

/-- The bottom edges stay. -/
theorem k103e : after (hostOps0_5 (F := Ideal)) V (Proc.devRef .tc main_v103) = V (Proc.devRef .tc main_v103) := by
  after_reads_simp

/-- The bottom edges stay. -/
theorem k103f : after ((hostOps0_6 (F := Ideal)).take 1) V (Proc.devRef .tc main_v103) = V (Proc.devRef .tc main_v103) := by
  after_reads_simp

/-- The order stays. -/
theorem k105g : after (((hostOps0_6 (F := Ideal)).take 56).drop 1) V (Proc.devRef .tc main_v105) = V (Proc.devRef .tc main_v105) := by
  after_reads_simp

/-- The order stays. -/
theorem k105h : after ((hostOps0_6 (F := Ideal)).drop 56) V (Proc.devRef .tc main_v105) = V (Proc.devRef .tc main_v105) := by
  after_reads_simp

variable {V}

/-- The selected rows and scores, in the order of the scores. -/
structure Sel (sc : Fin 20736 → EReal) (de : Fin 20736 → Fin 4 → EReal) (V : Valuation τ sig (Elt Ideal)) : Prop where
  h85 : ∀ p k, V (Proc.devRef .tc main_v85) (ix2 p k) = prop de (top sc de p) k
  h93 : ∀ p : Fin 1000, V (Proc.devRef .tc main_v93) (ix1 p) = fs sc de (top sc de p)
  h95 : ∀ p : Fin 1000, V (Proc.devRef .tc main_v95) (ix1 p) = bx de (top sc de p)
  h97 : ∀ p : Fin 1000, V (Proc.devRef .tc main_v97) (ix1 p) = byy de (top sc de p)
  h99 : ∀ p : Fin 1000, V (Proc.devRef .tc main_v99) (ix1 p) = bw de (top sc de p)
  h101 : ∀ p : Fin 1000, V (Proc.devRef .tc main_v101) (ix1 p) = bh de (top sc de p)
  h102 : ∀ p : Fin 1000, V (Proc.devRef .tc main_v102) (ix1 p) = bx2 de (top sc de p)
  h103 : ∀ p : Fin 1000, V (Proc.devRef .tc main_v103) (ix1 p) = by2 de (top sc de p)

/-- The selection. -/
theorem sel (h76 : ∀ p, V (Proc.devRef .tc main_v76) (ix1 p) = BitVec.ofNat 32 (topAll sc de p).val)
    (h71 : ∀ n k, V (Proc.devRef .tc main_v71) (ix3 0 n k) = prop de n k) (h73 : ∀ n, V (Proc.devRef .tc main_v73) (ix2 0 n) = fs sc de n) :
    Sel sc de (after hostOps0_4 V) := by
  rw [halves V hostOps0_4 21]
  have e85 := v85 h76 h71
  have e93 := v93 h76 h73
  generalize after ((hostOps0_4 (F := Ideal)).take 21) V = X at e85 e93 ⊢
  exact ⟨fun p k => (congrFun (k85d X) _).trans (e85 p k), fun p => (congrFun (k93d X) _).trans (e93 p),
    v95 e85, v97 e85, v99 e85, v101 e85, v102 e85, v103 e85⟩

/-- The selection of all boxes of the two arguments. -/
theorem selected (V : Valuation τ sig (Elt Ideal)) :
    Sel (scOf (V (Proc.devRef .tc main_arg0))) (deOf (V (Proc.devRef .tc main_arg1)))
      (after hostOps0_4 (after hostOps0_3 (after hostOps0_2 (after hostOps0_1 (after hostOps0 V))))) := by
  have e70 := RefBoxes.m70 V
  have e71 := RefBoxes.m71 V
  have e72 := RefBoxes.m72 V
  have e13 := RefBoxes.m13 V
  generalize scOf (V (Proc.devRef .tc main_arg0)) = sc at *
  generalize deOf (V (Proc.devRef .tc main_arg1)) = de at *
  generalize after hostOps0 V = X0 at *
  have f71 : ∀ n k, after hostOps0_1 X0 (Proc.devRef .tc main_v71) (ix3 0 n k) = prop de n k := fun n k => (congrFun (k71a X0) _).trans (e71 n k)
  have f73 := v73 e70 e72 e13
  generalize after hostOps0_1 X0 = X1 at *
  have g71 : ∀ n k, after hostOps0_2 X1 (Proc.devRef .tc main_v71) (ix3 0 n k) = prop de n k := fun n k => (congrFun (k71b X1) _).trans (f71 n k)
  have g73 : ∀ n, after hostOps0_2 X1 (Proc.devRef .tc main_v73) (ix2 0 n) = fs sc de n := fun n => (congrFun (k73b X1) _).trans (f73 n)
  have g75 := v75 f73
  generalize after hostOps0_2 X1 = X2 at *
  exact sel (v76 g75) (fun n k => (congrFun (k71c X2) _).trans (g71 n k)) (fun n => (congrFun (k73c X2) _).trans (g73 n))

/-- The suppression's order of the selected boxes. -/
def place (sc : Fin 20736 → EReal) (de : Fin 20736 → Fin 4 → EReal) (p : Fin 1000) : Fin 1000 := ys de (top sc de) p.rev

/-- It is the order by the key. -/
theorem top_place (hsc : ∀ n, 0 ≤ sc n) (p : Fin 1000) : top sc de (place sc de p) = ord sc de p := by
  have h := Order.reversed_sort (top sc de) (key sc de) (by2 de) (top_lex sc de hsc) (fun a b => decide (by2 de (top sc de a) < by2 de (top sc de b)))
    (fun a b => decide_eq_true_iff)
  exact congrFun (Order.enum_unique (key sc de) (key_injective sc de) (fun p => top sc de (place sc de p)) (ord sc de) h.1 (ord_mono sc de)
    (h.2.trans (ord_range sc de).symm)) p

/-- What the rest of the program needs of the state before the loop. -/
structure Entry (sc : Fin 20736 → EReal) (de : Fin 20736 → Fin 4 → EReal) (X : Valuation τ sig (Elt Ideal)) : Prop where
  inv : RefLoop.Inv (rowsOf sc de) 0 X
  h85 : ∀ p k, X (Proc.devRef .tc main_v85) (ix2 p k) = prop de (top sc de p) k
  h105 : ∀ p, X (Proc.devRef .tc main_v105) (ix1 p) = BitVec.ofNat 32 (place sc de p).val

/-- The table's row at a place. -/
theorem rows_col (p : Fin 1000) (j : Fin 9) : rowsOf sc de p.val j = col sc de (ord sc de p) j := by
  unfold rowsOf
  rw [dif_pos p.isLt]

/-- The state before the loop. -/
theorem entry_of (h : Sel sc de V) (hsc : ∀ n, 0 ≤ sc n ∧ sc n < ⊤) : Entry sc de (after hostOps0_6 (after hostOps0_5 V)) := by
  have e104 := v104 h.h103
  have e85 : ∀ p k, after hostOps0_5 V (Proc.devRef .tc main_v85) (ix2 p k) = prop de (top sc de p) k := fun p k => (congrFun (k85e V) _).trans (h.h85 p k)
  have e93 : ∀ p : Fin 1000, after hostOps0_5 V (Proc.devRef .tc main_v93) (ix1 p) = fs sc de (top sc de p) := fun p => (congrFun (k93e V) _).trans (h.h93 p)
  have e95 : ∀ p : Fin 1000, after hostOps0_5 V (Proc.devRef .tc main_v95) (ix1 p) = bx de (top sc de p) := fun p => (congrFun (k95e V) _).trans (h.h95 p)
  have e97 : ∀ p : Fin 1000, after hostOps0_5 V (Proc.devRef .tc main_v97) (ix1 p) = byy de (top sc de p) := fun p => (congrFun (k97e V) _).trans (h.h97 p)
  have e99 : ∀ p : Fin 1000, after hostOps0_5 V (Proc.devRef .tc main_v99) (ix1 p) = bw de (top sc de p) := fun p => (congrFun (k99e V) _).trans (h.h99 p)
  have e101 : ∀ p : Fin 1000, after hostOps0_5 V (Proc.devRef .tc main_v101) (ix1 p) = bh de (top sc de p) := fun p => (congrFun (k101e V) _).trans (h.h101 p)
  have e102 : ∀ p : Fin 1000, after hostOps0_5 V (Proc.devRef .tc main_v102) (ix1 p) = bx2 de (top sc de p) := fun p => (congrFun (k102e V) _).trans (h.h102 p)
  have e103 : ∀ p : Fin 1000, after hostOps0_5 V (Proc.devRef .tc main_v103) (ix1 p) = by2 de (top sc de p) := fun p => (congrFun (k103e V) _).trans (h.h103 p)
  generalize after hostOps0_5 V = X at *
  rw [thirds X hostOps0_6 56 1 (by omega)]
  have f105 := v105 e104
  have f85 : ∀ p k, after ((hostOps0_6 (F := Ideal)).take 1) X (Proc.devRef .tc main_v85) (ix2 p k) = prop de (top sc de p) k := fun p k => (congrFun (k85f X) _).trans (e85 p k)
  have f93 : ∀ p : Fin 1000, after ((hostOps0_6 (F := Ideal)).take 1) X (Proc.devRef .tc main_v93) (ix1 p) = fs sc de (top sc de p) := fun p => (congrFun (k93f X) _).trans (e93 p)
  have f95 : ∀ p : Fin 1000, after ((hostOps0_6 (F := Ideal)).take 1) X (Proc.devRef .tc main_v95) (ix1 p) = bx de (top sc de p) := fun p => (congrFun (k95f X) _).trans (e95 p)
  have f97 : ∀ p : Fin 1000, after ((hostOps0_6 (F := Ideal)).take 1) X (Proc.devRef .tc main_v97) (ix1 p) = byy de (top sc de p) := fun p => (congrFun (k97f X) _).trans (e97 p)
  have f99 : ∀ p : Fin 1000, after ((hostOps0_6 (F := Ideal)).take 1) X (Proc.devRef .tc main_v99) (ix1 p) = bw de (top sc de p) := fun p => (congrFun (k99f X) _).trans (e99 p)
  have f101 : ∀ p : Fin 1000, after ((hostOps0_6 (F := Ideal)).take 1) X (Proc.devRef .tc main_v101) (ix1 p) = bh de (top sc de p) := fun p => (congrFun (k101f X) _).trans (e101 p)
  have f102 : ∀ p : Fin 1000, after ((hostOps0_6 (F := Ideal)).take 1) X (Proc.devRef .tc main_v102) (ix1 p) = bx2 de (top sc de p) := fun p => (congrFun (k102f X) _).trans (e102 p)
  have f103 : ∀ p : Fin 1000, after ((hostOps0_6 (F := Ideal)).take 1) X (Proc.devRef .tc main_v103) (ix1 p) = by2 de (top sc de p) := fun p => (congrFun (k103f X) _).trans (e103 p)
  generalize after ((hostOps0_6 (F := Ideal)).take 1) X = Y at *
  have t := top_place (sc := sc) (de := de) (fun n => (hsc n).1)
  have g105 : ∀ p : Fin 1000, Y (Proc.devRef .tc main_v105) (ix1 p) = BitVec.ofNat 32 (place sc de p).val := f105
  have g112 : ∀ p : Fin 1000, after (((hostOps0_6 (F := Ideal)).take 56).drop 1) Y (Proc.devRef .tc main_v112) (ix1 p) = rowsOf sc de p.val 0 := fun p =>
    (v112 g105 p).trans ((f95 _).trans ((congrArg (bx de) (t p)).trans (rows_col p 0).symm))
  have g119 : ∀ p : Fin 1000, after (((hostOps0_6 (F := Ideal)).take 56).drop 1) Y (Proc.devRef .tc main_v119) (ix1 p) = rowsOf sc de p.val 1 := fun p =>
    (v119 g105 p).trans ((f97 _).trans ((congrArg (byy de) (t p)).trans (rows_col p 1).symm))
  have g126 : ∀ p : Fin 1000, after (((hostOps0_6 (F := Ideal)).take 56).drop 1) Y (Proc.devRef .tc main_v126) (ix1 p) = rowsOf sc de p.val 2 := fun p =>
    (v126 g105 p).trans ((f102 _).trans ((congrArg (bx2 de) (t p)).trans (rows_col p 2).symm))
  have g133 : ∀ p : Fin 1000, after (((hostOps0_6 (F := Ideal)).take 56).drop 1) Y (Proc.devRef .tc main_v133) (ix1 p) = rowsOf sc de p.val 3 := fun p =>
    (v133 g105 p).trans ((f103 _).trans ((congrArg (by2 de) (t p)).trans (rows_col p 3).symm))
  have g141 : ∀ p : Fin 1000, after (((hostOps0_6 (F := Ideal)).take 56).drop 1) Y (Proc.devRef .tc main_v141) (ix1 p) = rowsOf sc de p.val 4 := fun p =>
    (v141 g105 p).trans ((congrArg₂ (fun a b : EReal => a * b) (f99 _) (f101 _)).trans ((congrArg (bar de) (t p)).trans (rows_col p 4).symm))
  have g148 : ∀ p : Fin 1000, after (((hostOps0_6 (F := Ideal)).take 56).drop 1) Y (Proc.devRef .tc main_v148) (ix1 p) = fs sc de (ord sc de p) := fun p =>
    (v148 g105 p).trans ((f93 _).trans (congrArg (fs sc de) (t p)))
  have k85 : ∀ p k, after (((hostOps0_6 (F := Ideal)).take 56).drop 1) Y (Proc.devRef .tc main_v85) (ix2 p k) = prop de (top sc de p) k := fun p k => (congrFun (k85g Y) _).trans (f85 p k)
  have k105 : ∀ p : Fin 1000, after (((hostOps0_6 (F := Ideal)).take 56).drop 1) Y (Proc.devRef .tc main_v105) (ix1 p) = BitVec.ofNat 32 (place sc de p).val := fun p => (congrFun (k105g Y) _).trans (g105 p)
  generalize after (((hostOps0_6 (F := Ideal)).take 56).drop 1) Y = Z at *
  exact ⟨⟨RefPair.v189_0, RefPair.v189_1 g112 g119 g126 g133 g141, RefPair.v189_2,
      RefPair.v189_3 sc de (ord sc de) g148 hsc (fun p => rows_col p 5)⟩,
    fun p k => (congrFun (k85h Z) _).trans (k85 p k), fun p => (congrFun (k105h Z) _).trans (k105 p)⟩

/-- The state before the loop, of the two arguments. -/
theorem entry (V : Valuation τ sig (Elt Ideal)) (hsc : ∀ n, 0 ≤ scOf (V (Proc.devRef .tc main_arg0)) n ∧ scOf (V (Proc.devRef .tc main_arg0)) n < ⊤) :
    Entry (scOf (V (Proc.devRef .tc main_arg0))) (deOf (V (Proc.devRef .tc main_arg1))) (afterL preI V) :=
  entry_of (selected V) hsc

end Cert.RefEntry
-- ==== Proof.RefScatter.lean ====
/-
  The reference's adding scatter of rows: where a row lands, and the table it leaves.
-/
module

public import proofs.«01_k».proof.Proof.Gen.ReferenceIdeal.Run
public import proofs.«01_k».proof.Proof.Words
public import Idealize.ShloMosaic.Lib.Routing.OpsOne
public import Idealize.ShloMosaic.Lib.Routing.OpsPair
public import Idealize.ShloMosaic.Lib.Pointwise

@[expose] public section

set_option maxRecDepth 16384

noncomputable section

namespace Cert.RefScatter

open Idealize.ShloMosaic
open Cert.ReferenceIdeal

/-- An entry of row `p` lands in the row its word names, in its own column. -/
theorem lands (idx : IVec S1000x1 32) (p : Fin 1000) (w : Fin 4) (r : Fin 301) (k : Fin 4) :
    ScatterDims.resultIdx? scatter_S301x4_S1000x1_S1000x4_1_0_0_1 (ix2 p w) idx = some (ix2 r k) ↔ (idx (ix2 p 0)).toInt = (r.val : Int) ∧ w = k := by
  have w0 : ScatterDims.window scatter_S301x4_S1000x1_S1000x4_1_0_0_1 (ix2 p w) 0 = 0 := rfl
  have w1 : ScatterDims.window scatter_S301x4_S1000x1_S1000x4_1_0_0_1 (ix2 p w) 1 = w.val := rfl
  have s1 : ScatterDims.start scatter_S301x4_S1000x1_S1000x4_1_0_0_1 (ix2 p w) idx 1 = 0 := rfl
  have s0 : ScatterDims.start scatter_S301x4_S1000x1_S1000x4_1_0_0_1 (ix2 p w) idx 0 = (idx (ix2 p 0)).toInt := by
    unfold ScatterDims.start
    rw [dif_pos (show (0 : Fin 2) ∈ scatter_S301x4_S1000x1_S1000x4_1_0_0_1.scatterDimsToOperandDims from List.mem_singleton.2 rfl)]
    refine congrArg (fun q => (idx q).toInt) ?_
    funext b
    fin_cases b
    · rfl
    · rfl
  refine (Routing.resultIdx?_ix2 scatter_S301x4_S1000x1_S1000x4_1_0_0_1 (ix2 p w) idx r k).trans ?_
  rw [w0, w1, s0, s1]
  constructor
  · rintro ⟨h1, h2⟩; exact ⟨by omega, Fin.ext (by omega)⟩
  · rintro ⟨h1, rfl⟩; exact ⟨by omega, by omega⟩

/-- A table of zeros to which rows are added: each place holds the sum of the rows that name it. -/
theorem added (x : S301x4.Idx → EReal) (hx : ∀ r k, x (ix2 r k) = 0) (idx : IVec S1000x1 32) (t : Fin 1000 → ℕ) (ht : ∀ p, t p < 2 ^ 31)
    (hidx : ∀ p, idx (ix2 p 0) = BitVec.ofNat 32 (t p)) (upd : S1000x4.Idx → EReal) (r : Fin 301) (k : Fin 4) :
    Ideal.hostScatterAdd scatter_S301x4_S1000x1_S1000x4_1_0_0_1 x idx upd (ix2 r k) = ∑ p : Fin 1000, if t p = r.val then upd (ix2 p k) else 0 := by
  unfold Ideal.hostScatterAdd
  rw [hx, zero_add, Finset.sum_filter, sum_idx2]
  refine Finset.sum_congr rfl fun p _ => ?_
  simp only [lands, hidx, Words.toInt_small (ht _)]
  by_cases h : t p = r.val
  · simp [h]
  · have : ¬ ((t p : Int) = (r.val : Int)) := by omega
    simp [h, this]

end Cert.RefScatter
-- ==== Proof.RefTail.lean ====
/-
  The reference after its loop: the survivors' places and the rows added into the result.
-/
module

public import proofs.«01_k».proof.Proof.RefEntry
public import proofs.«01_k».proof.Proof.RefScatter

@[expose] public section

set_option maxRecDepth 16384

noncomputable section

namespace Cert.RefTail

open Idealize.ShloMosaic Idealize.ShloMosaic.TcCoe
open Cert.ReferenceIdeal Cert.ReferenceIdeal.Gen Cert.Spec Cert.Words Cert.Result
open Idealize.ShloMosaic.StableHlo

variable {V : Valuation τ sig (Elt Ideal)}

/-- The rows in the suppression's order. -/
theorem v196 {u : Fin 1000 → Fin 1000} (h105 : ∀ p : Fin 1000, V (Proc.devRef .tc main_v105) (ix1 p) = BitVec.ofNat 32 (u p).val) (p : Fin 1000) (k : Fin 4) :
    after hostOps0_7 V (Proc.devRef .tc main_v196) (ix2 p k) = V (Proc.devRef .tc main_v85) (ix2 (u p) k) := by
  after_reads_at
  refine (Routing.gather_row (nb := 1000) (B := 4) (n := 1000) gather_S1000x4_S1000x1_S1000x4_1_0_n_n_0_1_14 rfl rfl rfl rfl rfl _ _ _ k (u p) ?_ (by norm_num)).trans rfl
  pointwise
  exact RefSel.wrapped (h105 p) (by omega)

/-- The flags as words. -/
theorem v197 {f : ℕ → Bool} (h : ∀ p : Fin 1000, V (Proc.devRef .tc main_v189_3) (ix1 p) = BitVec.ofBool (f p.val)) (p : Fin 1000) :
    after hostOps0_7 V (Proc.devRef .tc main_v197) (ix1 p) = BitVec.ofNat 32 (if f p.val = true then 1 else 0) := by
  after_reads_at
  rw [h]
  cases f p.val <;> rfl

/-- The running number of survivors. -/
theorem v198 {f : ℕ → ℕ} (h : ∀ p : Fin 1000, V (Proc.devRef .tc main_v197) (ix1 p) = BitVec.ofNat 32 (f p.val)) (p : Fin 1000) :
    after hostOps0_8 V (Proc.devRef .tc main_v198) (ix1 p) = BitVec.ofNat 32 ((List.range (p.val + 1)).map f).sum := by
  after_reads_at
  refine Routing.cumsum1 (by norm_num) _ f h _ ?_ _ _ p
  pointwise

/-- The number of survivors as a sum. -/
theorem count_sum (box : ℕ → Fin 9 → EReal) (p : ℕ) :
    ((List.range (p + 1)).map fun q => if Nms.kept box q = true then 1 else 0).sum = Nms.count box p := by
  unfold Nms.count
  rw [Finset.card_filter]
  rfl

/-- The predecessor of a positive number's word. -/
theorem pred_word {n : ℕ} (h : 1 ≤ n) : BitVec.ofNat 32 (n - 1) = BitVec.ofNat 32 n - 1#32 := by
  obtain ⟨k, rfl⟩ : ∃ k, n = k + 1 := ⟨n - 1, by omega⟩
  rw [BitVec.ofNat_add]
  show BitVec.ofNat 32 k = BitVec.ofNat 32 k + 1#32 - 1#32
  rw [BitVec.add_sub_cancel]

/-- The places before they are bounded. -/
theorem v200 {n : Fin 1000 → ℕ} (h : ∀ p : Fin 1000, V (Proc.devRef .tc main_v198) (ix1 p) = BitVec.ofNat 32 (n p)) (p : Fin 1000) :
    after hostOps0_9 V (Proc.devRef .tc main_v200) (ix1 p) = BitVec.ofNat 32 (n p) - 1#32 := by
  after_reads_at
  rw [h]
  rfl

/-- Whether a place is that of one of the first three hundred survivors. -/
theorem v203 {n : Fin 1000 → ℕ} {f : ℕ → Bool} (h3 : ∀ p : Fin 1000, V (Proc.devRef .tc main_v189_3) (ix1 p) = BitVec.ofBool (f p.val))
    (h : ∀ p : Fin 1000, V (Proc.devRef .tc main_v198) (ix1 p) = BitVec.ofNat 32 (n p)) (hn : ∀ p, n p ≤ 1000) (hf : ∀ p, f p.val = true → 1 ≤ n p) (p : Fin 1000) :
    after hostOps0_9 V (Proc.devRef .tc main_v203) (ix1 p) = BitVec.ofBool (f p.val && decide (n p ≤ 300)) := by
  after_reads_at
  rw [h, h3]
  by_cases e : f p.val = true
  · have h1 := hf p e
    have h2 := hn p
    rw [e]
    refine (congrArg (fun w => IntOp.andi 1#1 (IntOp.cmpi .slt w 300#32)) (pred_word h1).symm).trans ?_
    show IntOp.andi 1#1 (BitVec.ofBool (BitVec.slt (BitVec.ofNat 32 (n p - 1)) (BitVec.ofNat 32 300))) = _
    rw [BitVec.slt_eq_decide, toInt_small (by omega), toInt_small (by omega)]
    by_cases g : n p ≤ 300
    · rw [decide_eq_true (by omega : ((n p - 1 : ℕ) : Int) < ((300 : ℕ) : Int)), decide_eq_true g]; rfl
    · rw [decide_eq_false (by omega : ¬ ((n p - 1 : ℕ) : Int) < ((300 : ℕ) : Int)), decide_eq_false g]; rfl
  · rw [Bool.eq_false_iff.mpr e]
    show 0#1 &&& _ = 0#1
    exact BitVec.zero_and

/-- The bound's word. -/
theorem c40 : after hostOps0_9 V (Proc.devRef .tc main_c_40) ix0 = 300#32 := by
  after_reads_at

/-- The places of the rows, the rest past the end. -/
theorem v204 {b : Fin 1000 → Bool} {n : Fin 1000 → ℕ} (h203 : ∀ p : Fin 1000, V (Proc.devRef .tc main_v203) (ix1 p) = BitVec.ofBool (b p))
    (h200 : ∀ p : Fin 1000, V (Proc.devRef .tc main_v200) (ix1 p) = BitVec.ofNat 32 (n p) - 1#32) (hn : ∀ p, b p = true → 1 ≤ n p)
    (h40 : V (Proc.devRef .tc main_c_40) ix0 = 300#32) (p : Fin 1000) :
    after hostOps0_10 V (Proc.devRef .tc main_v204) (ix1 p) = BitVec.ofNat 32 (if b p = true then n p - 1 else 300) := by
  after_reads_at
  rw [h203, h200]
  show Scalar.select _ _ (V (Proc.devRef .tc main_c_40) ix0) = _
  rw [h40]
  by_cases e : b p = true
  · rw [if_pos e, e, pred_word (hn p e)]; rfl
  · rw [if_neg e, Bool.eq_false_iff.mpr e]; rfl

/-- The empty table. -/
theorem v205 (r : Fin 301) (k : Fin 4) : after hostOps0_11 V (Proc.devRef .tc main_v205) (ix2 r k) = (0 : EReal) := by
  after_reads_at

/-- The flags as a column. -/
theorem v206 (p : Fin 1000) : after hostOps0_11 V (Proc.devRef .tc main_v206) (ix2 p 0) = V (Proc.devRef .tc main_v203) (ix1 p) := by
  after_reads_at

/-- The fill is zero. -/
theorem c42 : after hostOps0_11 V (Proc.devRef .tc main_cst_42) ix0 = (0 : EReal) := by
  after_reads_at

/-- The rows to add. -/
theorem v207 {b : Fin 1000 → Bool} {g : Fin 1000 → Fin 4 → EReal} (h : ∀ p : Fin 1000, V (Proc.devRef .tc main_v206) (ix2 p 0) = BitVec.ofBool (b p))
    (h42 : V (Proc.devRef .tc main_cst_42) ix0 = (0 : EReal)) (h196 : ∀ (p : Fin 1000) (k : Fin 4), V (Proc.devRef .tc main_v196) (ix2 p k) = g p k)
    (p : Fin 1000) (k : Fin 4) :
    after hostOps0_12 V (Proc.devRef .tc main_v207) (ix2 p k) = if b p = true then g p k else (0 : EReal) := by
  after_reads_at
  rw [h, h196]
  show Scalar.select _ _ (V (Proc.devRef .tc main_cst_42) ix0) = _
  rw [h42]
  cases b p <;> rfl

/-- The result. -/
theorem v216 {t : Fin 1000 → ℕ} {g : Fin 1000 → Fin 4 → EReal} (ht : ∀ p, t p ≤ 300)
    (h204 : ∀ p : Fin 1000, V (Proc.devRef .tc main_v204) (ix1 p) = BitVec.ofNat 32 (t p))
    (h205 : ∀ (r : Fin 301) (k : Fin 4), V (Proc.devRef .tc main_v205) (ix2 r k) = (0 : EReal))
    (h207 : ∀ (p : Fin 1000) (k : Fin 4), V (Proc.devRef .tc main_v207) (ix2 p k) = g p k) (r : Fin 300) (k : Fin 4) :
    after hostOps0_13 V (Proc.devRef .tc main_v216) (ix3 0 r k) = ∑ p : Fin 1000, if t p = r.val then g p k else 0 := by
  after_reads_at
  refine (RefScatter.added _ h205 _ t (fun p => by have := ht p; omega) (fun p => ?_) _ ⟨r.val, by omega⟩ k).trans ?_
  · pointwise
    exact RefSel.wrapped (h204 p) (by have := ht p; omega)
  · exact Finset.sum_congr rfl fun p _ => by rw [h207]

/-- The flags stay. -/
theorem k189_7 (V : Valuation τ sig (Elt Ideal)) : after (hostOps0_7 (F := Ideal)) V (Proc.devRef .tc main_v189_3) = V (Proc.devRef .tc main_v189_3) := by
  after_reads_simp

/-- The flags stay. -/
theorem k189_8 (V : Valuation τ sig (Elt Ideal)) : after (hostOps0_8 (F := Ideal)) V (Proc.devRef .tc main_v189_3) = V (Proc.devRef .tc main_v189_3) := by
  after_reads_simp

/-- The rows stay. -/
theorem k196_8 (V : Valuation τ sig (Elt Ideal)) : after (hostOps0_8 (F := Ideal)) V (Proc.devRef .tc main_v196) = V (Proc.devRef .tc main_v196) := by
  after_reads_simp

/-- The rows stay. -/
theorem k196_9 (V : Valuation τ sig (Elt Ideal)) : after (hostOps0_9 (F := Ideal)) V (Proc.devRef .tc main_v196) = V (Proc.devRef .tc main_v196) := by
  after_reads_simp

/-- The rows stay. -/
theorem k196_10 (V : Valuation τ sig (Elt Ideal)) : after (hostOps0_10 (F := Ideal)) V (Proc.devRef .tc main_v196) = V (Proc.devRef .tc main_v196) := by
  after_reads_simp

/-- The rows stay. -/
theorem k196_11 (V : Valuation τ sig (Elt Ideal)) : after (hostOps0_11 (F := Ideal)) V (Proc.devRef .tc main_v196) = V (Proc.devRef .tc main_v196) := by
  after_reads_simp

/-- The choice stays. -/
theorem k203_10 (V : Valuation τ sig (Elt Ideal)) : after (hostOps0_10 (F := Ideal)) V (Proc.devRef .tc main_v203) = V (Proc.devRef .tc main_v203) := by
  after_reads_simp

/-- The places stay. -/
theorem k204_11 (V : Valuation τ sig (Elt Ideal)) : after (hostOps0_11 (F := Ideal)) V (Proc.devRef .tc main_v204) = V (Proc.devRef .tc main_v204) := by
  after_reads_simp

/-- The places stay. -/
theorem k204_12 (V : Valuation τ sig (Elt Ideal)) : after (hostOps0_12 (F := Ideal)) V (Proc.devRef .tc main_v204) = V (Proc.devRef .tc main_v204) := by
  after_reads_simp

/-- The empty table stays. -/
theorem k205_12 (V : Valuation τ sig (Elt Ideal)) : after (hostOps0_12 (F := Ideal)) V (Proc.devRef .tc main_v205) = V (Proc.devRef .tc main_v205) := by
  after_reads_simp

/-- Everything after the loop. -/
theorem tail {sc : Fin 20736 → EReal} {de : Fin 20736 → Fin 4 → EReal} {u : Fin 1000 → Fin 1000}
    (h189 : ∀ p : Fin 1000, V (Proc.devRef .tc main_v189_3) (ix1 p) = BitVec.ofBool (Nms.kept (rowsOf sc de) p.val))
    (h105 : ∀ p : Fin 1000, V (Proc.devRef .tc main_v105) (ix1 p) = BitVec.ofNat 32 (u p).val)
    (h85 : ∀ (p : Fin 1000) (k : Fin 4), V (Proc.devRef .tc main_v85) (ix2 (u p) k) = rowsOf sc de p.val (outCol k)) (r : Fin 300) (k : Fin 4) :
    after hostOps0_13 (after hostOps0_12 (after hostOps0_11 (after hostOps0_10 (after hostOps0_9 (after hostOps0_8 (after hostOps0_7 V))))))
      (Proc.devRef .tc main_v216) (ix3 0 r k) = val sc de r.val k := by
  have a196 : ∀ (p : Fin 1000) (k : Fin 4), after hostOps0_7 V (Proc.devRef .tc main_v196) (ix2 p k) = rowsOf sc de p.val (outCol k) :=
    fun p k => (v196 h105 p k).trans (h85 p k)
  have a197 := v197 h189
  have a189 : ∀ p : Fin 1000, after hostOps0_7 V (Proc.devRef .tc main_v189_3) (ix1 p) = BitVec.ofBool (Nms.kept (rowsOf sc de) p.val) :=
    fun p => (congrFun (k189_7 V) _).trans (h189 p)
  generalize after hostOps0_7 V = A at *
  have b198 : ∀ p : Fin 1000, after hostOps0_8 A (Proc.devRef .tc main_v198) (ix1 p) = BitVec.ofNat 32 (Nms.count (rowsOf sc de) p.val) :=
    fun p => (v198 (f := fun q => if Nms.kept (rowsOf sc de) q = true then 1 else 0) a197 p).trans (congrArg (BitVec.ofNat 32) (count_sum _ _))
  have b189 : ∀ p : Fin 1000, after hostOps0_8 A (Proc.devRef .tc main_v189_3) (ix1 p) = BitVec.ofBool (Nms.kept (rowsOf sc de) p.val) :=
    fun p => (congrFun (k189_8 A) _).trans (a189 p)
  have b196 : ∀ (p : Fin 1000) (k : Fin 4), after hostOps0_8 A (Proc.devRef .tc main_v196) (ix2 p k) = rowsOf sc de p.val (outCol k) :=
    fun p k => (congrFun (k196_8 A) _).trans (a196 p k)
  generalize after hostOps0_8 A = B at *
  have c200 := v200 b198
  have c203 := v203 b189 b198 (fun p => (Nms.count_le _ p.val).trans p.isLt) (fun p => Nms.count_pos _ p.val)
  have c40 := c40 (V := B)
  have c196 : ∀ (p : Fin 1000) (k : Fin 4), after hostOps0_9 B (Proc.devRef .tc main_v196) (ix2 p k) = rowsOf sc de p.val (outCol k) :=
    fun p k => (congrFun (k196_9 B) _).trans (b196 p k)
  generalize after hostOps0_9 B = C at *
  have d204 := v204 (b := fun p : Fin 1000 => Nms.kept (rowsOf sc de) p.val && decide (Nms.count (rowsOf sc de) p.val ≤ 300)) c203 c200
    (fun p e => Nms.count_pos _ p.val (Bool.and_eq_true_iff.mp e).1) c40
  have d203 := fun p : Fin 1000 => (congrFun (k203_10 C) (ix1 p)).trans (c203 p)
  have d196 : ∀ (p : Fin 1000) (k : Fin 4), after hostOps0_10 C (Proc.devRef .tc main_v196) (ix2 p k) = rowsOf sc de p.val (outCol k) :=
    fun p k => (congrFun (k196_10 C) _).trans (c196 p k)
  generalize after hostOps0_10 C = D at *
  have e204 := fun p : Fin 1000 => (congrFun (k204_11 D) (ix1 p)).trans (d204 p)
  have e205 := v205 (V := D)
  have e206 := fun p : Fin 1000 => (v206 (V := D) p).trans (d203 p)
  have e42 := c42 (V := D)
  have e196 : ∀ (p : Fin 1000) (k : Fin 4), after hostOps0_11 D (Proc.devRef .tc main_v196) (ix2 p k) = rowsOf sc de p.val (outCol k) :=
    fun p k => (congrFun (k196_11 D) _).trans (d196 p k)
  generalize after hostOps0_11 D = E at *
  have f204 := fun p : Fin 1000 => (congrFun (k204_12 E) (ix1 p)).trans (e204 p)
  have f205 : ∀ (r : Fin 301) (k : Fin 4), after hostOps0_12 E (Proc.devRef .tc main_v205) (ix2 r k) = (0 : EReal) :=
    fun r k => (congrFun (k205_12 E) _).trans (e205 r k)
  have f207 := v207 e206 e42 e196
  generalize after hostOps0_12 E = G at *
  refine (v216 (fun p => ?_) f204 f205 f207 r k).trans ?_
  · split
    · next e => have := of_decide_eq_true (Bool.and_eq_true_iff.mp e).2; omega
    · exact le_rfl
  · unfold val Nms.out
    refine Eq.trans (α := EReal) ?_ (Fin.sum_univ_eq_sum_range (fun p => if Nms.kept (rowsOf sc de) p = true ∧ Nms.count (rowsOf sc de) p = r.val + 1 then rowsOf sc de p (outCol k) else 0) 1000)
    refine Finset.sum_congr rfl fun p _ => ?_
    have hc := fun e : Nms.kept (rowsOf sc de) p.val = true => Nms.count_pos _ p.val e
    have hr := r.isLt
    generalize Nms.kept (rowsOf sc de) p.val = q at *
    generalize Nms.count (rowsOf sc de) p.val = n at *
    generalize rowsOf sc de p.val (outCol k) = x
    cases q
    · have : ¬ (300 = r.val) := by omega
      simp [this]
    · have hn := hc rfl
      by_cases h : n ≤ 300
      · have : (n - 1 = r.val) ↔ (n = r.val + 1) := by omega
        simp [h, this]
      · have h1 : ¬ (300 = r.val) := by omega
        have h2 : ¬ (n = r.val + 1) := by omega
        simp [h, h1, h2]

end Cert.RefTail
-- ==== Proof.RefValue.lean ====
/-
  The reference's result, of its two arguments.
-/
module

public import proofs.«01_k».proof.Proof.RefTail
public import proofs.«01_k».proof.Proof.RefRun

@[expose] public section

set_option maxRecDepth 16384

noncomputable section

namespace Cert.RefValue

open Idealize.ShloMosaic Idealize.ShloMosaic.TcCoe
open Cert.ReferenceIdeal Cert.ReferenceIdeal.Gen Cert.ReferenceIdeal.Value Cert.Spec Cert.Result
open Idealize.ShloMosaic.StableHlo

variable (m : (ℓ : Loc nD τ sig) → Buf (Elt Ideal) ℓ) (c : Dev nD)

/-- The loop's last condition leaves the order and the rows alone. -/
theorem cond105 (X : Valuation τ sig (Elt Ideal)) : after condOps X (Proc.devRef .tc main_v105) = X (Proc.devRef .tc main_v105) := by
  after_reads_simp

theorem cond85 (X : Valuation τ sig (Elt Ideal)) : after condOps X (Proc.devRef .tc main_v85) = X (Proc.devRef .tc main_v85) := by
  after_reads_simp

/-- A selected row in the suppression's order is the table's row. -/
theorem row_eq {sc : Fin 20736 → EReal} {de : Fin 20736 → Fin 4 → EReal} (hsc : ∀ n, 0 ≤ sc n) (p : Fin 1000) (k : Fin 4) :
    prop de (Keys.top sc de (RefEntry.place sc de p)) k = rowsOf sc de p.val (outCol k) := by
  rw [RefEntry.top_place hsc, RefEntry.rows_col]
  fin_cases k <;> rfl

/-- The result after `n` trips of the loop, of which there are a thousand. -/
theorem result_at (n : ℕ) (hn : n = 1000)
    (hsc : ∀ i, 0 ≤ scOf (m ((c.tc : Thread nD τ).loc main_arg0)) i ∧ scOf (m ((c.tc : Thread nD τ).loc main_arg0)) i < ⊤) (r : Fin 300) (k : Fin 4) :
    afterL postI (after condOps (atK m n c)) (Proc.devRef .tc main_v216) (ix3 0 r k)
      = val (scOf (m ((c.tc : Thread nD τ).loc main_arg0))) (deOf (m ((c.tc : Thread nD τ).loc main_arg1))) r.val k := by
  have h : RefEntry.Entry (scOf (m ((c.tc : Thread nD τ).loc main_arg0))) (deOf (m ((c.tc : Thread nD τ).loc main_arg1))) (entryContents preI m c) :=
    RefEntry.entry (launchContents m c) hsc
  have h189 := RefLoop.atK189 m c h.inv n (le_of_eq hn)
  have h105 := RefLoop.atK105 m c n
  have h85 := RefLoop.atK85 m c n
  generalize atK m n c = X at *
  refine RefTail.tail (u := RefEntry.place (scOf (m ((c.tc : Thread nD τ).loc main_arg0))) (deOf (m ((c.tc : Thread nD τ).loc main_arg1)))) (fun p => ?_) (fun p => ?_) (fun p k => ?_) r k
  · refine (congrFun (cond_keeps X main_v189_3 (by decide)) _).trans ((h189 p).trans ?_)
    rw [hn]
    rfl
  · exact (congrFun (cond105 X) _).trans ((congrFun h105 _).trans (h.h105 p))
  · exact (congrFun (cond85 X) _).trans ((congrFun h85 _).trans ((h.h85 _ k).trans (row_eq (fun i => (hsc i).1) p k)))

/-- The reference's result array, where every score is finite and not negative. -/
theorem result (hsc : ∀ i, 0 ≤ scOf (m ((c.tc : Thread nD τ).loc main_arg0)) i ∧ scOf (m ((c.tc : Thread nD τ).loc main_arg0)) i < ⊤)
    (r : Fin 300) (k : Fin 4) :
    finalContents condOps preI bodyI postI 1000 m c (Proc.devRef .tc main_v216) (ix3 0 r k)
      = val (scOf (m ((c.tc : Thread nD τ).loc main_arg0))) (deOf (m ((c.tc : Thread nD τ).loc main_arg1))) r.val k :=
  (congrFun (congrFun (show finalContents condOps preI bodyI postI 1000 m c = afterL postI (after condOps (atK m 1000 c)) from rfl) _) _).trans
    (result_at m c 1000 rfl hsc r k)

end Cert.RefValue
-- ==== Proof.Precondition.lean ====
/-
  The precondition: its side conditions, and what it says of every score.
-/
module

public import proofs.«01_k».proof.Pre_scores_nonnegative_finite
public import proofs.«01_k».proof.Proof.Keys
public import Idealize.ShloMosaic.Lib.ReduceAll
public import Idealize.ShloMosaic.Lib.Pointwise

@[expose] public section

noncomputable section

namespace Cert.Precondition

open Idealize.ShloMosaic
open Cert.Pre_scores_nonnegative_finite Cert.Spec

theorem bcast_scores : S_.BroadcastsInDim S1x9x48x48 (![] : Fin 0 → Fin S1x9x48x48.rank) := by decide

theorem reduces_scores : S1x9x48x48.ReducesTo [0, 1, 2, 3] S_ := by decide

theorem pos_one : 0 < S_.numel := by decide

/-- The precondition's side conditions. -/
theorem facts : Cert.Pre_scores_nonnegative_finite.Facts where
  bcast_S_S1x9x48x48 := bcast_scores
  reducesTo_S1x9x48x48_S_d0_1_2_3 := reduces_scores
  h_S_ := pos_one

instance : Subsingleton S_.Idx := ⟨fun a b => funext fun i => i.elim0⟩

/-- Under the precondition every score is at least zero and below infinity. -/
theorem scores [Cert.Pre_scores_nonnegative_finite.Facts] (x : FVec Ideal S1x9x48x48 .f32) (y : FVec Ideal S1x36x48x48 .f32) (z : FVec Ideal S3 .f32)
    (h : fn (F := Ideal) x y z = fun _ => 1#1) (n : Fin 20736) : 0 ≤ scOf x n ∧ scOf x n < ⊤ := by
  unfold fn at h
  have e := Host.reduce_andi_all _ _ _ _ ix0 (congrFun h ix0) (ix4 0 ⟨n.val / 2304, by omega⟩ ⟨n.val / 48 % 48, by omega⟩ ⟨n.val % 48, by omega⟩)
  have e' : IntOp.andi (BitVec.ofBool (decide (lit 0x00000000#32 ≤ scOf x n))) (BitVec.ofBool (decide (scOf x n < lit 0x7F800000#32))) = 1#1 := e
  rw [Keys.lit_zero, Keys.lit_inf] at e'
  by_cases h0 : 0 ≤ scOf x n <;> by_cases h1 : scOf x n < ⊤
  · exact ⟨h0, h1⟩
  · rw [decide_eq_true h0, decide_eq_false h1] at e'; exact absurd e' (by decide)
  · rw [decide_eq_false h0, decide_eq_true h1] at e'; exact absurd e' (by decide)
  · rw [decide_eq_false h0, decide_eq_false h1] at e'; exact absurd e' (by decide)

end Cert.Precondition
-- ==== Proof.lean ====
/-
  The proof of `Cert.Claim`: the frames of the kernel, of its ideal reading and of the reference; that the ideal reading
  is the kernel's own; and that kernel and reference end with equal results where every score is finite and not negative.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KerRun
public import proofs.«01_k».proof.Proof.RefRun
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- An index of the result is its row and its column, under the leading zero. -/
theorem idx_eta (i : Cert.ReferenceIdeal.S1x300x4.Idx) : i = ix3 0 (i 1) (i 2) := by
  funext a
  fin_cases a
  · exact Subsingleton.elim (α := Fin 1) _ _
  · rfl
  · rfl

/-- From equal arguments, with every score finite and not negative, the two result arrays are equal: both are the boxes
    that survive the suppression, in its order. -/
theorem results (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hsc : ∀ n, 0 ≤ Cert.KerRun.scM m c n ∧ Cert.KerRun.scM m c n < ⊤)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    StableHlo.finalContents Cert.ReferenceIdeal.Value.condOps Cert.ReferenceIdeal.Value.preI Cert.ReferenceIdeal.Value.bodyI
        Cert.ReferenceIdeal.Value.postI 1000 m' c (Proc.devRef .tc Cert.ReferenceIdeal.main_v216)
      = Cert.KernelIdeal.Gen.W7 m g c (Proc.devRef .tc Cert.KernelIdeal.main_v71) := by
  refine funext fun (i : Cert.ReferenceIdeal.S1x300x4.Idx) => ?_
  have hsc' : ∀ n, 0 ≤ Cert.Spec.scOf (m' ((c.tc : Thread Cert.ReferenceIdeal.nD Cert.ReferenceIdeal.τ).loc Cert.ReferenceIdeal.main_arg0)) n
      ∧ Cert.Spec.scOf (m' ((c.tc : Thread Cert.ReferenceIdeal.nD Cert.ReferenceIdeal.τ).loc Cert.ReferenceIdeal.main_arg0)) n < ⊤ := by
    rw [h0]; exact hsc
  have hr := Cert.RefValue.result m' c hsc' (i 1) (i 2)
  rw [h0, h1] at hr
  have hk := Cert.KerRun.w7 m g c (i 1) (i 2)
  rw [idx_eta i]
  exact hr.trans hk.symm

theorem claim : Cert.Claim := ⟨Cert.Kernel.Gen.facts, Cert.KernelIdeal.Gen.facts, Cert.ReferenceIdeal.Gen.facts, Cert.Precondition.facts,
  fun m ρ _ => Cert.Kernel.Gen.frame m ρ,
  fun m ρ _ => Cert.KernelIdeal.Gen.frame m ρ,
  fun m ρ _ => Cert.KernelIdeal.Gen.frame m ρ,
  fun m ρ _ => θ_run_mono (Cert.RefRun.run m ρ) fun _ h => ⟨fun c => (h.1 c).2, h.2⟩,
  fun m ρ _ => θ_run_mono (Cert.RefRun.run m ρ) fun _ h => ⟨fun c => (h.1 c).2, h.2⟩,
  trivial,
  fun m g m' g' hpre hargs => ⟨fun c => Cert.KernelIdeal.Gen.W7 m g c (Proc.devRef .tc Cert.KernelIdeal.main_v71),
    θ_run_mono (Cert.KerRun.run m g) fun _ h => h.1,
    θ_run_mono (Cert.RefRun.run m' g') fun _ h c => ⟨(h.1 c).1.trans (results m g m' c
      (@Cert.Precondition.scores Cert.Precondition.facts _ _ _ (hpre c)) (hargs c).1 (hargs c).2.1), (h.1 c).2⟩⟩⟩

end Cert.Proof

end
